-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "tenth" .f32 0x3DCCCCCD#32 ((1 / 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576x20 : Shape := ⟨2, ![1048576, 20]⟩
abbrev S112x240 : Shape := ⟨2, ![112, 240]⟩
abbrev S240x8 : Shape := ⟨2, ![240, 8]⟩
abbrev S20x1048576 : Shape := ⟨2, ![20, 1048576]⟩
abbrev S1048576 : Shape := ⟨1, ![1048576]⟩
abbrev S20x32768 : Shape := ⟨2, ![20, 32768]⟩
abbrev S32768 : Shape := ⟨1, ![32768]⟩
abbrev S8x1 : Shape := ⟨2, ![8, 1]⟩
abbrev S8x32768 : Shape := ⟨2, ![8, 32768]⟩
abbrev S4x32768 : Shape := ⟨2, ![4, 32768]⟩
abbrev S4x1 : Shape := ⟨2, ![4, 1]⟩
abbrev S57344 : Shape := ⟨1, ![57344]⟩
abbrev S8192 : Shape := ⟨1, ![8192]⟩
abbrev S1792 : Shape := ⟨1, ![1792]⟩
abbrev S_ : Shape := ⟨0, ![]⟩
abbrev S16 : Shape := ⟨1, ![16]⟩
abbrev S32x112x16 : Shape := ⟨3, ![32, 112, 16]⟩
abbrev S1x8 : Shape := ⟨2, ![1, 8]⟩
abbrev S32x112 : Shape := ⟨2, ![32, 112]⟩
abbrev S112 : Shape := ⟨1, ![112]⟩
abbrev S1x112 : Shape := ⟨2, ![1, 112]⟩
abbrev S1x240 : Shape := ⟨2, ![1, 240]⟩
abbrev S1x5 : Shape := ⟨2, ![1, 5]⟩
abbrev S5 : Shape := ⟨1, ![5]⟩
abbrev S1x1 : Shape := ⟨2, ![1, 1]⟩

abbrev nBuf : Table → Nat
  | .hbm => 12
  | .local .tc .vmem => 8
  | .local .scVector .vmem => 3
  | _ => 0

abbrev bufTy : (tb : Table) → Fin (nBuf tb) → BufTy
  | .hbm, ⟨0, _⟩ => ⟨S1048576x20, .f32⟩
  | .hbm, ⟨1, _⟩ => ⟨S112x240, .f32⟩
  | .hbm, ⟨2, _⟩ => ⟨S240x8, .f32⟩
  | .hbm, ⟨3, _⟩ => ⟨S20x1048576, .f32⟩
  | .hbm, ⟨4, _⟩ => ⟨S1048576, .i32⟩
  | .hbm, ⟨5, _⟩ => ⟨S57344, .f32⟩
  | .hbm, ⟨6, _⟩ => ⟨S32x112x16, .f32⟩
  | .hbm, ⟨7, _⟩ => ⟨S1x8, .f32⟩
  | .hbm, ⟨8, _⟩ => ⟨S1x5, .f32⟩
  | .hbm, ⟨9, _⟩ => ⟨S5, .f32⟩
  | .hbm, ⟨10, _⟩ => ⟨S1x1, .f32⟩
  | .hbm, ⟨11, _⟩ => ⟨S_, .f32⟩
  | .local .tc .vmem, ⟨0, _⟩ => ⟨S20x32768, .f32⟩
  | .local .tc .vmem, ⟨1, _⟩ => ⟨S20x32768, .f32⟩
  | .local .tc .vmem, ⟨2, _⟩ => ⟨S32768, .i32⟩
  | .local .tc .vmem, ⟨3, _⟩ => ⟨S32768, .i32⟩
  | .local .tc .vmem, ⟨4, _⟩ => ⟨S32x112x16, .f32⟩
  | .local .tc .vmem, ⟨5, _⟩ => ⟨S112x240, .f32⟩
  | .local .tc .vmem, ⟨6, _⟩ => ⟨S240x8, .f32⟩
  | .local .tc .vmem, ⟨7, _⟩ => ⟨S1x8, .f32⟩
  | .local .scVector .vmem, ⟨0, _⟩ => ⟨S8192, .i32⟩
  | .local .scVector .vmem, ⟨1, _⟩ => ⟨S8192, .i32⟩
  | .local .scVector .vmem, ⟨2, _⟩ => ⟨S1792, .f32⟩
  | _, _ => ⟨S1048576x20, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v1_scv : Ref sig .scVector := ⟨.hbm, 4, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 7
abbrev cc2_sem1_0 : DmaSem sig := 8
abbrev cc2_sem2_0 : DmaSem sig := 9
abbrev cc2_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S20x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
def k1_off2 (i : grid1.Coords) (c8192_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let v120 : BitVec 32 := Scalar.addi v2 c8192_i32
  ![v120.toNat]
@[reducible] def k1_t1_loop : Scf.Loop 32 :=
  let c0_i32_1 : BitVec 32 := 0#32
  let c512_i32 : BitVec 32 := 512#32
  let v125 : BitVec 32 := Scalar.addi c0_i32_1 c512_i32
  let c1_i32 : BitVec 32 := 1#32
  ⟨c0_i32_1, v125, c1_i32⟩
def k1_off3 (k1_t1 : Fin k1_t1_loop.trips) : Fin 1 → Nat :=
  let c0_i32_1 : BitVec 32 := 0#32
  let c1_i32 : BitVec 32 := 1#32
  let arg9 : BitVec 32 := Scf.iv c0_i32_1 c1_i32 k1_t1
  let c16_i32 : BitVec 32 := 16#32
  let v142 : BitVec 32 := Scalar.muli arg9 c16_i32
  let v143 : Index := Scalar.indexCast v142
  ![v143.toNat]

def k1_chk1 (v149 : IVec S16 32) : Prop :=
  (∀ a x, ((![v149] : Fin 1 → IVec S16 32) a x).toNat < S1792.size a)
theorem k1_idx1_inb : ∀ (v149 : IVec S16 32) (k1_hw1 : k1_chk1 v149), ∀ a x, ((![v149] : Fin 1 → IVec S16 32) a x).toNat < S1792.size a := fun v149 k1_hw1 => k1_hw1

def k1_chk2 (v156 : IVec S16 32) : Prop :=
  (∀ a x, ((![v156] : Fin 1 → IVec S16 32) a x).toNat < S1792.size a)
theorem k1_idx2_inb : ∀ (v156 : IVec S16 32) (k1_hw2 : k1_chk2 v156), ∀ a x, ((![v156] : Fin 1 → IVec S16 32) a x).toNat < S1792.size a := fun v156 k1_hw2 => k1_hw2

def k1_chk3 (v163 : IVec S16 32) : Prop :=
  (∀ a x, ((![v163] : Fin 1 → IVec S16 32) a x).toNat < S1792.size a)
theorem k1_idx3_inb : ∀ (v163 : IVec S16 32) (k1_hw3 : k1_chk3 v163), ∀ a x, ((![v163] : Fin 1 → IVec S16 32) a x).toNat < S1792.size a := fun v163 k1_hw3 => k1_hw3

def k1_chk4 (v170 : IVec S16 32) : Prop :=
  (∀ a x, ((![v170] : Fin 1 → IVec S16 32) a x).toNat < S1792.size a)
theorem k1_idx4_inb : ∀ (v170 : IVec S16 32) (k1_hw4 : k1_chk4 v170), ∀ a x, ((![v170] : Fin 1 → IVec S16 32) a x).toNat < S1792.size a := fun v170 k1_hw4 => k1_hw4

def k1_chk5 (v177 : IVec S16 32) : Prop :=
  (∀ a x, ((![v177] : Fin 1 → IVec S16 32) a x).toNat < S1792.size a)
theorem k1_idx5_inb : ∀ (v177 : IVec S16 32) (k1_hw5 : k1_chk5 v177), ∀ a x, ((![v177] : Fin 1 → IVec S16 32) a x).toNat < S1792.size a := fun v177 k1_hw5 => k1_hw5

def k1_chk6 (v184 : IVec S16 32) : Prop :=
  (∀ a x, ((![v184] : Fin 1 → IVec S16 32) a x).toNat < S1792.size a)
theorem k1_idx6_inb : ∀ (v184 : IVec S16 32) (k1_hw6 : k1_chk6 v184), ∀ a x, ((![v184] : Fin 1 → IVec S16 32) a x).toNat < S1792.size a := fun v184 k1_hw6 => k1_hw6
@[reducible] def k1_t2_loop : Scf.Loop 32 :=
  let c0_i32_4 : BitVec 32 := 0#32
  let c512_i32_5 : BitVec 32 := 512#32
  let v131 : BitVec 32 := Scalar.addi c0_i32_4 c512_i32_5
  let c1_i32_6 : BitVec 32 := 1#32
  ⟨c0_i32_4, v131, c1_i32_6⟩
def k1_off4 (k1_t2 : Fin k1_t2_loop.trips) : Fin 1 → Nat :=
  let c0_i32_4 : BitVec 32 := 0#32
  let c1_i32_6 : BitVec 32 := 1#32
  let arg9 : BitVec 32 := Scf.iv c0_i32_4 c1_i32_6 k1_t2
  let c16_i32 : BitVec 32 := 16#32
  let v142 : BitVec 32 := Scalar.muli arg9 c16_i32
  let v143 : Index := Scalar.indexCast v142
  ![v143.toNat]

def k1_chk7 (v149 : IVec S16 32) : Prop :=
  (∀ a x, ((![v149] : Fin 1 → IVec S16 32) a x).toNat < S1792.size a)
theorem k1_idx7_inb : ∀ (v149 : IVec S16 32) (k1_hw7 : k1_chk7 v149), ∀ a x, ((![v149] : Fin 1 → IVec S16 32) a x).toNat < S1792.size a := fun v149 k1_hw7 => k1_hw7

def k1_chk8 (v156 : IVec S16 32) : Prop :=
  (∀ a x, ((![v156] : Fin 1 → IVec S16 32) a x).toNat < S1792.size a)
theorem k1_idx8_inb : ∀ (v156 : IVec S16 32) (k1_hw8 : k1_chk8 v156), ∀ a x, ((![v156] : Fin 1 → IVec S16 32) a x).toNat < S1792.size a := fun v156 k1_hw8 => k1_hw8

def k1_chk9 (v163 : IVec S16 32) : Prop :=
  (∀ a x, ((![v163] : Fin 1 → IVec S16 32) a x).toNat < S1792.size a)
theorem k1_idx9_inb : ∀ (v163 : IVec S16 32) (k1_hw9 : k1_chk9 v163), ∀ a x, ((![v163] : Fin 1 → IVec S16 32) a x).toNat < S1792.size a := fun v163 k1_hw9 => k1_hw9

def k1_chk10 (v170 : IVec S16 32) : Prop :=
  (∀ a x, ((![v170] : Fin 1 → IVec S16 32) a x).toNat < S1792.size a)
theorem k1_idx10_inb : ∀ (v170 : IVec S16 32) (k1_hw10 : k1_chk10 v170), ∀ a x, ((![v170] : Fin 1 → IVec S16 32) a x).toNat < S1792.size a := fun v170 k1_hw10 => k1_hw10

def k1_chk11 (v177 : IVec S16 32) : Prop :=
  (∀ a x, ((![v177] : Fin 1 → IVec S16 32) a x).toNat < S1792.size a)
theorem k1_idx11_inb : ∀ (v177 : IVec S16 32) (k1_hw11 : k1_chk11 v177), ∀ a x, ((![v177] : Fin 1 → IVec S16 32) a x).toNat < S1792.size a := fun v177 k1_hw11 => k1_hw11

def k1_chk12 (v184 : IVec S16 32) : Prop :=
  (∀ a x, ((![v184] : Fin 1 → IVec S16 32) a x).toNat < S1792.size a)
theorem k1_idx12_inb : ∀ (v184 : IVec S16 32) (k1_hw12 : k1_chk12 v184), ∀ a x, ((![v184] : Fin 1 → IVec S16 32) a x).toNat < S1792.size a := fun v184 k1_hw12 => k1_hw12
@[reducible] def k1_t3_loop : Scf.Loop 32 :=
  let c0_i32_9 : BitVec 32 := 0#32
  let c512_i32_10 : BitVec 32 := 512#32
  let v137 : BitVec 32 := Scalar.addi c0_i32_9 c512_i32_10
  let c1_i32_11 : BitVec 32 := 1#32
  ⟨c0_i32_9, v137, c1_i32_11⟩
def k1_off5 (k1_t3 : Fin k1_t3_loop.trips) : Fin 1 → Nat :=
  let c0_i32_9 : BitVec 32 := 0#32
  let c1_i32_11 : BitVec 32 := 1#32
  let arg9 : BitVec 32 := Scf.iv c0_i32_9 c1_i32_11 k1_t3
  let c16_i32 : BitVec 32 := 16#32
  let v142 : BitVec 32 := Scalar.muli arg9 c16_i32
  let v143 : Index := Scalar.indexCast v142
  ![v143.toNat]

def k1_chk13 (v149 : IVec S16 32) : Prop :=
  (∀ a x, ((![v149] : Fin 1 → IVec S16 32) a x).toNat < S1792.size a)
theorem k1_idx13_inb : ∀ (v149 : IVec S16 32) (k1_hw13 : k1_chk13 v149), ∀ a x, ((![v149] : Fin 1 → IVec S16 32) a x).toNat < S1792.size a := fun v149 k1_hw13 => k1_hw13

def k1_chk14 (v156 : IVec S16 32) : Prop :=
  (∀ a x, ((![v156] : Fin 1 → IVec S16 32) a x).toNat < S1792.size a)
theorem k1_idx14_inb : ∀ (v156 : IVec S16 32) (k1_hw14 : k1_chk14 v156), ∀ a x, ((![v156] : Fin 1 → IVec S16 32) a x).toNat < S1792.size a := fun v156 k1_hw14 => k1_hw14

def k1_chk15 (v163 : IVec S16 32) : Prop :=
  (∀ a x, ((![v163] : Fin 1 → IVec S16 32) a x).toNat < S1792.size a)
theorem k1_idx15_inb : ∀ (v163 : IVec S16 32) (k1_hw15 : k1_chk15 v163), ∀ a x, ((![v163] : Fin 1 → IVec S16 32) a x).toNat < S1792.size a := fun v163 k1_hw15 => k1_hw15

def k1_chk16 (v170 : IVec S16 32) : Prop :=
  (∀ a x, ((![v170] : Fin 1 → IVec S16 32) a x).toNat < S1792.size a)
theorem k1_idx16_inb : ∀ (v170 : IVec S16 32) (k1_hw16 : k1_chk16 v170), ∀ a x, ((![v170] : Fin 1 → IVec S16 32) a x).toNat < S1792.size a := fun v170 k1_hw16 => k1_hw16

def k1_chk17 (v177 : IVec S16 32) : Prop :=
  (∀ a x, ((![v177] : Fin 1 → IVec S16 32) a x).toNat < S1792.size a)
theorem k1_idx17_inb : ∀ (v177 : IVec S16 32) (k1_hw17 : k1_chk17 v177), ∀ a x, ((![v177] : Fin 1 → IVec S16 32) a x).toNat < S1792.size a := fun v177 k1_hw17 => k1_hw17

def k1_chk18 (v184 : IVec S16 32) : Prop :=
  (∀ a x, ((![v184] : Fin 1 → IVec S16 32) a x).toNat < S1792.size a)
theorem k1_idx18_inb : ∀ (v184 : IVec S16 32) (k1_hw18 : k1_chk18 v184), ∀ a x, ((![v184] : Fin 1 → IVec S16 32) a x).toNat < S1792.size a := fun v184 k1_hw18 => k1_hw18
@[reducible] def k1_t4_loop : Scf.Loop 32 :=
  let c0_i32_14 : BitVec 32 := 0#32
  let c512_i32_15 : BitVec 32 := 512#32
  let v140 : BitVec 32 := Scalar.addi c0_i32_14 c512_i32_15
  let c1_i32_16 : BitVec 32 := 1#32
  ⟨c0_i32_14, v140, c1_i32_16⟩
def k1_off6 (k1_t4 : Fin k1_t4_loop.trips) : Fin 1 → Nat :=
  let c0_i32_14 : BitVec 32 := 0#32
  let c1_i32_16 : BitVec 32 := 1#32
  let arg9 : BitVec 32 := Scf.iv c0_i32_14 c1_i32_16 k1_t4
  let c16_i32 : BitVec 32 := 16#32
  let v142 : BitVec 32 := Scalar.muli arg9 c16_i32
  let v143 : Index := Scalar.indexCast v142
  ![v143.toNat]

def k1_chk19 (v149 : IVec S16 32) : Prop :=
  (∀ a x, ((![v149] : Fin 1 → IVec S16 32) a x).toNat < S1792.size a)
theorem k1_idx19_inb : ∀ (v149 : IVec S16 32) (k1_hw19 : k1_chk19 v149), ∀ a x, ((![v149] : Fin 1 → IVec S16 32) a x).toNat < S1792.size a := fun v149 k1_hw19 => k1_hw19

def k1_chk20 (v156 : IVec S16 32) : Prop :=
  (∀ a x, ((![v156] : Fin 1 → IVec S16 32) a x).toNat < S1792.size a)
theorem k1_idx20_inb : ∀ (v156 : IVec S16 32) (k1_hw20 : k1_chk20 v156), ∀ a x, ((![v156] : Fin 1 → IVec S16 32) a x).toNat < S1792.size a := fun v156 k1_hw20 => k1_hw20

def k1_chk21 (v163 : IVec S16 32) : Prop :=
  (∀ a x, ((![v163] : Fin 1 → IVec S16 32) a x).toNat < S1792.size a)
theorem k1_idx21_inb : ∀ (v163 : IVec S16 32) (k1_hw21 : k1_chk21 v163), ∀ a x, ((![v163] : Fin 1 → IVec S16 32) a x).toNat < S1792.size a := fun v163 k1_hw21 => k1_hw21

def k1_chk22 (v170 : IVec S16 32) : Prop :=
  (∀ a x, ((![v170] : Fin 1 → IVec S16 32) a x).toNat < S1792.size a)
theorem k1_idx22_inb : ∀ (v170 : IVec S16 32) (k1_hw22 : k1_chk22 v170), ∀ a x, ((![v170] : Fin 1 → IVec S16 32) a x).toNat < S1792.size a := fun v170 k1_hw22 => k1_hw22

def k1_chk23 (v177 : IVec S16 32) : Prop :=
  (∀ a x, ((![v177] : Fin 1 → IVec S16 32) a x).toNat < S1792.size a)
theorem k1_idx23_inb : ∀ (v177 : IVec S16 32) (k1_hw23 : k1_chk23 v177), ∀ a x, ((![v177] : Fin 1 → IVec S16 32) a x).toNat < S1792.size a := fun v177 k1_hw23 => k1_hw23

def k1_chk24 (v184 : IVec S16 32) : Prop :=
  (∀ a x, ((![v184] : Fin 1 → IVec S16 32) a x).toNat < S1792.size a)
theorem k1_idx24_inb : ∀ (v184 : IVec S16 32) (k1_hw24 : k1_chk24 v184), ∀ a x, ((![v184] : Fin 1 → IVec S16 32) a x).toNat < S1792.size a := fun v184 k1_hw24 => k1_hw24
def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1792_i32 : BitVec 32 := 1792#32
  let v141 : BitVec 32 := Scalar.muli v1 c1792_i32
  ![v141.toNat]
abbrev grid2 : Pipeline.Grid := .none

abbrev stage2_0 : Fin 1 → Memref sig .tc .vmem S32x112x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S112x240 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S240x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_ln2" => some (((Real.log 2)⁻¹ : ℝ) : EReal)
  | "tenth" => some ((1 / 10 : ℝ) : EReal)
  | _ => none
-- ==== ReferenceIdeal.lean ====
abbrev S1048576x20 : Shape := ⟨2, ![1048576, 20]⟩
abbrev S3 : Shape := ⟨1, ![3]⟩
abbrev S4x3 : Shape := ⟨2, ![4, 3]⟩
abbrev S10x3 : Shape := ⟨2, ![10, 3]⟩
abbrev S1048576x5x4 : Shape := ⟨3, ![1048576, 5, 4]⟩
abbrev S_ : Shape := ⟨0, ![]⟩
abbrev S4x3x1 : Shape := ⟨3, ![4, 3, 1]⟩
abbrev S1048576x5x4x3 : Shape := ⟨4, ![1048576, 5, 4, 3]⟩
abbrev S1x1x1x3 : Shape := ⟨4, ![1, 1, 1, 3]⟩
abbrev S1048576x5x4x1 : Shape := ⟨4, ![1048576, 5, 4, 1]⟩
abbrev S8 : Shape := ⟨1, ![8]⟩
abbrev S1x1x1x8 : Shape := ⟨4, ![1, 1, 1, 8]⟩
abbrev S1048576x5x4x8 : Shape := ⟨4, ![1048576, 5, 4, 8]⟩
abbrev S5x4x8 : Shape := ⟨3, ![5, 4, 8]⟩
abbrev S5x4 : Shape := ⟨2, ![5, 4]⟩
abbrev S5 : Shape := ⟨1, ![5]⟩
abbrev S1048576x5 : Shape := ⟨2, ![1048576, 5]⟩
abbrev S1048576x1x5 : Shape := ⟨3, ![1048576, 1, 5]⟩
abbrev S10x3x1 : Shape := ⟨3, ![10, 3, 1]⟩
abbrev S1048576x1x10x3 : Shape := ⟨4, ![1048576, 1, 10, 3]⟩
abbrev S1048576x1x10 : Shape := ⟨3, ![1048576, 1, 10]⟩
abbrev S1048576x1x10x1 : Shape := ⟨4, ![1048576, 1, 10, 1]⟩
abbrev S1048576x1x10x8 : Shape := ⟨4, ![1048576, 1, 10, 8]⟩
abbrev S1x10x8 : Shape := ⟨3, ![1, 10, 8]⟩
abbrev S1x10 : Shape := ⟨2, ![1, 10]⟩
abbrev S1 : Shape := ⟨1, ![1]⟩

abbrev nBuf : Space → Nat
  | .hbm => 131
  | .vmem => 0
  | .smem => 0
  | _ => 0

abbrev hbmTy0_0 (i : Nat) : BufTy := match i % 128 with
  | 0 => ⟨S1048576x20, .f32⟩
  | 1 => ⟨S3, .i32⟩
  | 2 => ⟨S4x3, .i32⟩
  | 3 => ⟨S3, .i32⟩
  | 4 => ⟨S10x3, .i32⟩
  | 5 => ⟨S1048576x5x4, .f32⟩
  | 6 => ⟨S_, .i32⟩
  | 7 => ⟨S4x3, .i32⟩
  | 8 => ⟨S4x3, .i1⟩
  | 9 => ⟨S_, .i32⟩
  | 10 => ⟨S4x3, .i32⟩
  | 11 => ⟨S4x3, .i32⟩
  | 12 => ⟨S4x3, .i32⟩
  | 13 => ⟨S4x3x1, .i32⟩
  | 14 => ⟨S1048576x5x4x3, .f32⟩
  | 15 => ⟨S_, .f32⟩
  | 16 => ⟨S1048576x5x4x3, .f32⟩
  | 17 => ⟨S1048576x5x4x3, .i1⟩
  | 18 => ⟨S1048576x5x4x3, .i32⟩
  | 19 => ⟨S1x1x1x3, .i32⟩
  | 20 => ⟨S1048576x5x4x3, .i32⟩
  | 21 => ⟨S1048576x5x4x3, .i32⟩
  | 22 => ⟨S_, .i32⟩
  | 23 => ⟨S1048576x5x4, .i32⟩
  | 24 => ⟨S1048576x5x4x1, .i32⟩
  | 25 => ⟨S8, .i32⟩
  | 26 => ⟨S1x1x1x8, .i32⟩
  | 27 => ⟨S1048576x5x4x8, .i32⟩
  | 28 => ⟨S1048576x5x4x8, .i32⟩
  | 29 => ⟨S1048576x5x4x8, .i1⟩
  | 30 => ⟨S1048576x5x4x8, .i32⟩
  | 31 => ⟨S_, .i32⟩
  | 32 => ⟨S5x4x8, .i32⟩
  | 33 => ⟨S5x4x8, .f32⟩
  | 34 => ⟨S_, .f32⟩
  | 35 => ⟨S5x4x8, .f32⟩
  | 36 => ⟨S5x4x8, .f32⟩
  | 37 => ⟨S_, .f32⟩
  | 38 => ⟨S5x4x8, .f32⟩
  | 39 => ⟨S5x4x8, .i1⟩
  | 40 => ⟨S_, .f32⟩
  | 41 => ⟨S_, .f32⟩
  | 42 => ⟨S5x4x8, .f32⟩
  | 43 => ⟨S5x4x8, .f32⟩
  | 44 => ⟨S_, .f32⟩
  | 45 => ⟨S5x4x8, .f32⟩
  | 46 => ⟨S5x4x8, .i1⟩
  | 47 => ⟨S5x4x8, .f32⟩
  | 48 => ⟨S5x4x8, .f32⟩
  | 49 => ⟨S_, .f32⟩
  | 50 => ⟨S_, .f32⟩
  | 51 => ⟨S5x4x8, .f32⟩
  | 52 => ⟨S5x4x8, .f32⟩
  | 53 => ⟨S_, .f32⟩
  | 54 => ⟨S_, .f32⟩
  | 55 => ⟨S5x4x8, .f32⟩
  | 56 => ⟨S5x4x8, .f32⟩
  | 57 => ⟨S_, .f32⟩
  | 58 => ⟨S5x4, .f32⟩
  | 59 => ⟨S5x4, .f32⟩
  | 60 => ⟨S_, .f32⟩
  | 61 => ⟨S5, .f32⟩
  | 62 => ⟨S_, .f32⟩
  | 63 => ⟨S5, .f32⟩
  | 64 => ⟨S5, .f32⟩
  | 65 => ⟨S_, .f32⟩
  | 66 => ⟨S1048576x5, .f32⟩
  | 67 => ⟨S_, .f32⟩
  | 68 => ⟨S1048576x5, .f32⟩
  | 69 => ⟨S1048576x5, .f32⟩
  | 70 => ⟨S1048576x1x5, .f32⟩
  | 71 => ⟨S_, .i32⟩
  | 72 => ⟨S10x3, .i32⟩
  | 73 => ⟨S10x3, .i1⟩
  | 74 => ⟨S_, .i32⟩
  | 75 => ⟨S10x3, .i32⟩
  | 76 => ⟨S10x3, .i32⟩
  | 77 => ⟨S10x3, .i32⟩
  | 78 => ⟨S10x3x1, .i32⟩
  | 79 => ⟨S1048576x1x10x3, .f32⟩
  | 80 => ⟨S_, .f32⟩
  | 81 => ⟨S1048576x1x10x3, .f32⟩
  | 82 => ⟨S1048576x1x10x3, .i1⟩
  | 83 => ⟨S1048576x1x10x3, .i32⟩
  | 84 => ⟨S1x1x1x3, .i32⟩
  | 85 => ⟨S1048576x1x10x3, .i32⟩
  | 86 => ⟨S1048576x1x10x3, .i32⟩
  | 87 => ⟨S_, .i32⟩
  | 88 => ⟨S1048576x1x10, .i32⟩
  | 89 => ⟨S1048576x1x10x1, .i32⟩
  | 90 => ⟨S8, .i32⟩
  | 91 => ⟨S1x1x1x8, .i32⟩
  | 92 => ⟨S1048576x1x10x8, .i32⟩
  | 93 => ⟨S1048576x1x10x8, .i32⟩
  | 94 => ⟨S1048576x1x10x8, .i1⟩
  | 95 => ⟨S1048576x1x10x8, .i32⟩
  | 96 => ⟨S_, .i32⟩
  | 97 => ⟨S1x10x8, .i32⟩
  | 98 => ⟨S1x10x8, .f32⟩
  | 99 => ⟨S_, .f32⟩
  | 100 => ⟨S1x10x8, .f32⟩
  | 101 => ⟨S1x10x8, .f32⟩
  | 102 => ⟨S_, .f32⟩
  | 103 => ⟨S1x10x8, .f32⟩
  | 104 => ⟨S1x10x8, .i1⟩
  | 105 => ⟨S_, .f32⟩
  | 106 => ⟨S_, .f32⟩
  | 107 => ⟨S1x10x8, .f32⟩
  | 108 => ⟨S1x10x8, .f32⟩
  | 109 => ⟨S_, .f32⟩
  | 110 => ⟨S1x10x8, .f32⟩
  | 111 => ⟨S1x10x8, .i1⟩
  | 112 => ⟨S1x10x8, .f32⟩
  | 113 => ⟨S1x10x8, .f32⟩
  | 114 => ⟨S_, .f32⟩
  | 115 => ⟨S_, .f32⟩
  | 116 => ⟨S1x10x8, .f32⟩
  | 117 => ⟨S1x10x8, .f32⟩
  | 118 => ⟨S_, .f32⟩
  | 119 => ⟨S_, .f32⟩
  | 120 => ⟨S1x10x8, .f32⟩
  | 121 => ⟨S1x10x8, .f32⟩
  | 122 => ⟨S_, .f32⟩
  | 123 => ⟨S1x10, .f32⟩
  | 124 => ⟨S1x10, .f32⟩
  | 125 => ⟨S_, .f32⟩
  | 126 => ⟨S1, .f32⟩
  | 127 => ⟨S_, .f32⟩
  | _ => ⟨S1048576x20, .f32⟩

abbrev hbmTy0_1 (i : Nat) : BufTy := match i % 128 with
  | 0 => ⟨S1, .f32⟩
  | 1 => ⟨S1, .f32⟩
  | 2 => ⟨S_, .f32⟩
  | _ => ⟨S1048576x20, .f32⟩

abbrev hbmTy (i : Nat) : BufTy := match i / 128 with
  | 0 => hbmTy0_0 i
  | 1 => hbmTy0_1 i
  | _ => ⟨S1048576x20, .f32⟩

abbrev bufTy : (tb : Table) → Fin (tcTables nBuf tb) → BufTy
  | .hbm, ⟨i, _⟩ => hbmTy i
  | _, _ => ⟨S1048576x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_c_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_call1_v0 : Ref sig .tc := ⟨.hbm, 54, rfl⟩
abbrev main_call1_v1 : Ref sig .tc := ⟨.hbm, 55, rfl⟩
abbrev main_v36 : Ref sig .tc := ⟨.hbm, 56, rfl⟩
abbrev main_cst_13 : Ref sig .tc := ⟨.hbm, 57, rfl⟩
abbrev main_v37 : Ref sig .tc := ⟨.hbm, 58, rfl⟩
abbrev main_v38 : Ref sig .tc := ⟨.hbm, 59, rfl⟩
abbrev main_cst_14 : Ref sig .tc := ⟨.hbm, 60, rfl⟩
abbrev main_v39 : Ref sig .tc := ⟨.hbm, 61, rfl⟩
abbrev main_cst_15 : Ref sig .tc := ⟨.hbm, 62, rfl⟩
abbrev main_v40 : Ref sig .tc := ⟨.hbm, 63, rfl⟩
abbrev main_v41 : Ref sig .tc := ⟨.hbm, 64, rfl⟩
abbrev main_cst_16 : Ref sig .tc := ⟨.hbm, 65, rfl⟩
abbrev main_v42 : Ref sig .tc := ⟨.hbm, 66, rfl⟩
abbrev main_cst_17 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_18 : Ref sig .tc := ⟨.hbm, 71, rfl⟩
abbrev main_v46 : Ref sig .tc := ⟨.hbm, 72, rfl⟩
abbrev main_v47 : Ref sig .tc := ⟨.hbm, 73, rfl⟩
abbrev main_c_19 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_20 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_21 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_22 : Ref sig .tc := ⟨.hbm, 96, rfl⟩
abbrev main_v67 : Ref sig .tc := ⟨.hbm, 97, rfl⟩
abbrev main_v68 : Ref sig .tc := ⟨.hbm, 98, rfl⟩
abbrev main_cst_23 : Ref sig .tc := ⟨.hbm, 99, rfl⟩
abbrev main_v69 : Ref sig .tc := ⟨.hbm, 100, rfl⟩
abbrev main_v70 : Ref sig .tc := ⟨.hbm, 101, rfl⟩
abbrev main_cst_24 : Ref sig .tc := ⟨.hbm, 102, rfl⟩
abbrev main_v71 : Ref sig .tc := ⟨.hbm, 103, rfl⟩
abbrev main_v72 : Ref sig .tc := ⟨.hbm, 104, rfl⟩
abbrev main_cst_25 : Ref sig .tc := ⟨.hbm, 105, rfl⟩
abbrev main_call2_v0 : Ref sig .tc := ⟨.hbm, 106, rfl⟩
abbrev main_call2_v1 : Ref sig .tc := ⟨.hbm, 107, rfl⟩
abbrev main_v73 : Ref sig .tc := ⟨.hbm, 108, rfl⟩
abbrev main_cst_26 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_27 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_28 : Ref sig .tc := ⟨.hbm, 118, rfl⟩
abbrev main_call3_v0 : Ref sig .tc := ⟨.hbm, 119, rfl⟩
abbrev main_call3_v1 : Ref sig .tc := ⟨.hbm, 120, rfl⟩
abbrev main_v81 : Ref sig .tc := ⟨.hbm, 121, rfl⟩
abbrev main_cst_29 : Ref sig .tc := ⟨.hbm, 122, rfl⟩
abbrev main_v82 : Ref sig .tc := ⟨.hbm, 123, rfl⟩
abbrev main_v83 : Ref sig .tc := ⟨.hbm, 124, rfl⟩
abbrev main_cst_30 : Ref sig .tc := ⟨.hbm, 125, rfl⟩
abbrev main_v84 : Ref sig .tc := ⟨.hbm, 126, rfl⟩
abbrev main_cst_31 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩

abbrev nD : Nat := 1
abbrev τ : Topo := Topo.v7x

variable {F : FTy → Type} [FloatOps F]
-- ==== Proof.Base.lean ====
/-
  The setting of every later module: the histogram program as the SparseCore launch theorem reads it, the resource
  algebra of the run, and the arrays @main moves between its three kernels.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Hist

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type} [FloatOps F] [Named F]

/-! ## The launch -/

/-- The labels of the program once its two TensorCore pipelines are in it. -/
abbrev ΛP : Labels := Pipeline.Sig Λ₀ (Fin 2) fun p => (pcfgs (F := F) p).Adm
/-- The one SparseCore call. -/
abbrev K : SparseCore.Cfg τ sig (ΛP (F := F)) 1 := sc (F := F)
/-- The bodies under the launch: the two pipelines' and the vector subcores'. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the call's four handshake semaphores and of the SparseCores' shared memory. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The resource algebra: the call's handshakes, the pipelines' transfers, the tiles' transfers -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds lie. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- Where the pipelines' rounds lie. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

end Cert.Hist

end
-- ==== Proof.Trip.lean ====
/-
  What a vector subcore does to its histogram, step by step: the histogram as a value (`zeros`, `bump`, `step`,
  `hist`), and the two pieces of the subcore's program that write it — one clearing store, and one trip of the
  counting loop.
-/
module

public import proofs.«01_k».proof.Proof.Base

@[expose] public section

noncomputable section

namespace Cert.Hist

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## The histogram as a value -/

/-- A histogram: 112 rows of sixteen lanes. -/
abbrev Hst (F : FTy → Type) : Type := S1792.Idx → F .f32
/-- The packed words. -/
abbrev Packed : Type := S1048576.Idx → BitVec 32

/-- The lane numbers 0 to 15. -/
abbrev lanes : IVec S16 32 := iota .scVector S16 32 [0] iota_S16_d0_w32_scVector
/-- Sixteen ones. -/
abbrev ones : Vec F S16 .f32 := k1_pay22 (F := F)
/-- The cleared histogram. -/
def zeros : Hst F := fun _ => (Scalar.ofBits .f32 0x00000000#32 : F .f32)

/-- The six indices of one word's counts: the four low nibbles' rows, the fifth nibble's, the block pattern's. -/
abbrev ix1 (p : Vec F S16 .i32) : IVec S16 32 := k1_pay1 (F := F) lanes p
abbrev ix2 (p : Vec F S16 .i32) : IVec S16 32 := k1_pay2 (F := F) lanes p
abbrev ix3 (p : Vec F S16 .i32) : IVec S16 32 := k1_pay3 (F := F) lanes p
abbrev ix4 (p : Vec F S16 .i32) : IVec S16 32 := k1_pay4 (F := F) lanes p
abbrev ix5 (p : Vec F S16 .i32) : IVec S16 32 := k1_pay5 (F := F) lanes p
abbrev ix6 (p : Vec F S16 .i32) : IVec S16 32 := k1_pay23 (F := F) lanes p

/-- A vector of indices that stay inside the histogram. -/
abbrev Within (v : IVec S16 32) : Prop := k1_chk1 v

/-- Indices below 1792 are within the histogram. -/
theorem within_of {v : IVec S16 32} (h : ∀ x, (v x).toNat < 1792) : Within v := by
  intro a x
  obtain rfl : a = 0 := Subsingleton.elim _ _
  exact h x

/-- Lane `x` holds its own number. -/
theorem lanes_val (x : S16.Idx) : lanes x = BitVec.ofNat 32 (x 0).val := by
  show BitVec.ofNat 32 (([0] : List (Fin 1)).foldl (fun n a => n * S16.size a + (x a).val) 0) = _
  simp

/-- There are sixteen lanes. -/
theorem lane_lt (x : S16.Idx) : (x 0).val < 16 := (x 0).isLt

/-- A field of `j` bits cut out of a word by an arithmetic shift and a mask, both four bits short of the field: sixteen
    times the field. The sign bits the shift brings in lie above the mask. -/
theorem field_toNat (u : ArithUnit) (w m : BitVec 32) (k j : Nat) (hk : k + 4 + j ≤ 32) (hm : m.toNat = 2 ^ 4 * (2 ^ j - 1)) :
    (IntOp.andi (IntOp.shrsi u w (BitVec.ofNat 32 k)) m).toNat = 16 * (w.toNat / 2 ^ (k + 4) % 2 ^ j) := by
  have hk' : (BitVec.ofNat 32 k).toNat = k := by rw [BitVec.toNat_ofNat]; exact Nat.mod_eq_of_lt (by omega)
  unfold IntOp.andi IntOp.shrsi
  by_cases h32 : k = 32
  · omega
  rw [if_pos (by rw [hk']; omega), BitVec.sshiftRight', hk']
  apply Nat.eq_of_testBit_eq
  intro i
  rw [show (16 : Nat) = 2 ^ 4 from rfl, Nat.testBit_two_pow_mul, Nat.testBit_mod_two_pow, Nat.testBit_div_two_pow, BitVec.toNat_and, Nat.testBit_and, hm,
    Nat.testBit_two_pow_mul, Nat.testBit_two_pow_sub_one, BitVec.testBit_toNat, BitVec.getLsbD_sshiftRight]
  by_cases h1 : 4 ≤ i
  · by_cases h2 : i - 4 < j
    · have h3 : k + i < 32 := by omega
      have h4 : ¬ 32 ≤ i := by omega
      rw [if_pos h3, BitVec.testBit_toNat, show i - 4 + (k + 4) = k + i by omega]
      simp [h1, h2, h4]
    · simp [h2]
  · simp [h1]

/-- Adding a base and a lane number does not overflow. -/
theorem toNat_add_lane {a : BitVec 32} {b n : Nat} (x : S16.Idx) (h : a.toNat = n) (hn : n + b + 16 ≤ 2 ^ 32) :
    (IntOp.addi a (IntOp.addi (lanes x) (BitVec.ofNat 32 b))).toNat = n + b + (x 0).val := by
  have hx := lane_lt x
  rw [lanes_val]
  unfold IntOp.addi
  rw [BitVec.toNat_add, BitVec.toNat_add, BitVec.toNat_ofNat, BitVec.toNat_ofNat, h]
  omega

/-- The addresses for the other nibbles and for the five bits above them. -/
theorem ix2_toNat (p : Vec F S16 .i32) (x : S16.Idx) : (ix2 p x).toNat = 16 * ((p x).toNat / 16 % 16) + 256 + (x 0).val :=
  toNat_add_lane x (field_toNat _ (p x) 240#32 0 4 (by decide) (by decide)) (by omega)
theorem ix3_toNat (p : Vec F S16 .i32) (x : S16.Idx) : (ix3 p x).toNat = 16 * ((p x).toNat / 2 ^ 8 % 16) + 512 + (x 0).val :=
  toNat_add_lane x (field_toNat _ (p x) 240#32 4 4 (by decide) (by decide)) (by omega)
theorem ix4_toNat (p : Vec F S16 .i32) (x : S16.Idx) : (ix4 p x).toNat = 16 * ((p x).toNat / 2 ^ 12 % 16) + 768 + (x 0).val :=
  toNat_add_lane x (field_toNat _ (p x) 240#32 8 4 (by decide) (by decide)) (by omega)
theorem ix5_toNat (p : Vec F S16 .i32) (x : S16.Idx) : (ix5 p x).toNat = 16 * ((p x).toNat / 2 ^ 16 % 16) + 1024 + (x 0).val :=
  toNat_add_lane x (field_toNat _ (p x) 240#32 12 4 (by decide) (by decide)) (by omega)
theorem ix6_toNat (p : Vec F S16 .i32) (x : S16.Idx) : (ix6 p x).toNat = 16 * ((p x).toNat / 2 ^ 20 % 32) + 1280 + (x 0).val :=
  toNat_add_lane x (field_toNat _ (p x) 496#32 16 5 (by decide) (by decide)) (by omega)
/-- The address for the lowest nibble. -/
theorem ix1_toNat (p : Vec F S16 .i32) (x : S16.Idx) : (ix1 p x).toNat = 16 * ((p x).toNat % 16) + (x 0).val := by
  have hx := lane_lt x
  show (IntOp.addi (IntOp.shli _ (IntOp.andi (p x) 15#32) 4#32) (lanes x)).toNat = _
  rw [lanes_val]
  unfold IntOp.addi IntOp.shli IntOp.andi
  rw [if_pos (by decide), BitVec.toNat_add, BitVec.toNat_ofNat]
  have h : ((p x &&& 15#32) <<< (4#32 : BitVec 32)).toNat = 16 * ((p x).toNat % 16) := by
    rw [BitVec.shiftLeft_eq', BitVec.toNat_shiftLeft, BitVec.toNat_and, show (15#32 : BitVec 32).toNat = 2 ^ 4 - 1 from rfl, Nat.and_two_pow_sub_one_eq_mod,
      show (4#32 : BitVec 32).toNat = 4 from rfl, Nat.shiftLeft_eq]
    omega
  rw [h]; omega

/-- All six addresses are within the histogram. -/
theorem within1 (p : Vec F S16 .i32) : Within (ix1 p) := within_of fun x => by rw [ix1_toNat]; have := lane_lt x; omega
theorem within2 (p : Vec F S16 .i32) : Within (ix2 p) := within_of fun x => by rw [ix2_toNat]; have := lane_lt x; omega
theorem within3 (p : Vec F S16 .i32) : Within (ix3 p) := within_of fun x => by rw [ix3_toNat]; have := lane_lt x; omega
theorem within4 (p : Vec F S16 .i32) : Within (ix4 p) := within_of fun x => by rw [ix4_toNat]; have := lane_lt x; omega
theorem within5 (p : Vec F S16 .i32) : Within (ix5 p) := within_of fun x => by rw [ix5_toNat]; have := lane_lt x; omega
theorem within6 (p : Vec F S16 .i32) : Within (ix6 p) := within_of fun x => by rw [ix6_toNat]; have := lane_lt x; omega

/-- One added at each of sixteen indices, one after another. -/
def bump (h : Hst F) (v : IVec S16 32) (hv : Within v) : Hst F :=
  storeIdx (F := F) (e := .f32) h ![v] (ones (F := F)) (fun _ => 1#1) true (k1_idx1_inb v hv)

/-- The histogram after sixteen more words: six ones for each. -/
def step (h : Hst F) (p : Vec F S16 .i32) : Hst F :=
  bump (bump (bump (bump (bump (bump h (ix1 p) (within1 p)) (ix2 p) (within2 p)) (ix3 p) (within3 p)) (ix4 p) (within4 p)) (ix5 p) (within5 p)) (ix6 p) (within6 p)

/-- The place of word `n` among the packed words. -/
def wordAt (n : Nat) : S1048576.Idx := fun a => ⟨n % S1048576.size a, Nat.mod_lt _ (by obtain rfl : a = 0 := Subsingleton.elim _ _; decide)⟩

/-- The sixteen packed words from word `16 * n`. -/
def sixteen (pk : Packed) (n : Nat) : Vec F S16 .i32 :=
  fun x => pk (wordAt (16 * n + (x 0).val))

/-- The histogram of worker `w` after `n` trips: words `32768 * w` to `32768 * w + 16 * n - 1` counted. -/
def hist (pk : Packed) (w : Nat) : Nat → Hst F
  | 0 => zeros
  | n + 1 => step (hist pk w n) (sixteen pk (2048 * w + n))

/-! ## The trip's program -/

variable (d : Dev nD) (L : grid1.Coords)

/-- The vector subcore at mesh coordinates `L`: its SparseCore and its number there. -/
abbrev cV (L : grid1.Coords) : Fin τ.nSC := (L 0).castLE hcore1
abbrev jV (L : grid1.Coords) : Fin τ.nSub := (L 1).castLE hsub1
/-- The subcore as a thread. -/
abbrev tV (d : Dev nD) (L : grid1.Coords) : Thread nD τ := V d (cV L) (jV L)

/-- The subcore's two word buffers and its histogram. -/
abbrev bufA : Memref sig .scVector .vmem S8192 .i32 := Memref.whole cc1_scratch0
abbrev bufB : Memref sig .scVector .vmem S8192 .i32 := Memref.whole cc1_scratch1
abbrev bufH : Memref sig .scVector .vmem S1792 .f32 := Memref.whole cc1_scratch2

abbrev Body (F : FTy → Type) (L : grid1.Coords) (α : Type) : Type 1 :=
  Prog (TpuEff nD τ sig (Elt F) Λ₀ (.scVector ((L 0).castLE hcore1) ((L 1).castLE hsub1))) α

/-- Check that sixteen indices lie in the histogram, then add one at each. -/
def count (v : IVec S16 32) : Body F L PUnit := do
  have hv : Within v := (← Prog.lift (TpuEff.assume (Within v) (k1_chk1.dec v))).down
  SparseCore.vectorStoreIdx bufH ![v] (ones (F := F)) (fun _ => 1#1) true (k1_idx1_inb v hv) (View.stores_vmem_bits_univ h_S1792 rfl)

/-- One trip: sixteen words loaded, six counts each. -/
def trip (buf : Memref sig .scVector .vmem S8192 .i32) (off : Fin 1 → Nat) (hoff : ∀ a, off a + S16.size a ≤ S8192.size a) : Body F L Unit := do
  let p : Vec F S16 .i32 ← Prog.lift (.load buf (Rect.unit (s := S8192) off S16.size hoff).toLoadRect (View.loadsAt_vmem h_S16))
  count L (ix1 p)
  count L (ix2 p)
  count L (ix3 p)
  count L (ix4 p)
  count L (ix5 p)
  count L (ix6 p)

/-- The histogram buffer holds `h`. -/
abbrev ptsH (h : Hst F) : sProp 𝕄 :=
  (bufH.access (.whole S1792)).loc (tV d L) ↦[(bufH.access (.whole S1792)).set]{fullShare} h

/-- A write of the whole histogram replaces it. -/
theorem write_hist (h g : Hst F) : (bufH.access (.whole S1792)).write (Elt F) h g Finset.univ = g := by
  exact Memref.write_access_whole_univ _ _ _ _
/-- A read of the whole histogram yields it. -/
theorem read_hist (h : Hst F) : (bufH.access (.whole S1792)).read (Elt F) h = h := by
  exact Memref.read_access_whole _ _ _

/-- One indexed addition adds one at each of its sixteen addresses. -/
theorem wp_count {α : Type} {k : PUnit → Body F L α} {Q : α → sProp 𝕄} (v : IVec S16 32) (hv : Within v) (h : Hst F) :
    ptsH d L h ⊢ iprop((ptsH d L (bump h v hv) -∗ wp frame (wpE (defs₀ (F := F)) 𝒱₀ (tV d L) none) Set.univ (k ⟨⟩) Q)
      -∗ wp frame (wpE (defs₀ (F := F)) 𝒱₀ (tV d L) none) Set.univ (count L v >>= k) Q) := by
  unfold count
  simp only [Prog.lift, Prog.bind_op, Prog.bind_ret]
  rw [wp_assume_of _ _ _ _ hv]
  iintro H Hk
  iapply (SparseCore.wp_vectorStoreIdx 𝒱₀ (tV d L) none Set.univ (base := bufH)) $$ H
  iintro H
  iapply Hk
  rw [write_hist, read_hist]
  iexact H

/-- One trip reads sixteen words and counts their six fields. -/
theorem wp_trip {Q : Unit → sProp 𝕄} (buf : Memref sig .scVector .vmem S8192 .i32) (off : Fin 1 → Nat) (hoff : ∀ a, off a + S16.size a ≤ S8192.size a)
    (f : Buf (Elt F) (buf.view.loc (tV d L))) (p : Vec F S16 .i32)
    (hp : buf.view.readAt (Elt F) (Rect.unit (s := S8192) off S16.size hoff).toLoadRect f = p) (h : Hst F) :
    iprop(ptsH d L h ∗ buf.view.loc (tV d L) ↦[buf.view.set]{fullShare} f)
      ⊢ iprop((iprop(ptsH d L (step h p) ∗ buf.view.loc (tV d L) ↦[buf.view.set]{fullShare} f) -∗ Q ⟨⟩)
        -∗ wp frame (wpE (defs₀ (F := F)) 𝒱₀ (tV d L) none) Set.univ (trip L buf off hoff) Q) := by
  unfold trip
  simp only [Prog.lift, Prog.bind_op, Prog.bind_ret]
  iintro ⟨H, Hb⟩ Hk
  iapply (wp_load 𝒱₀ (tV d L) none Set.univ (m := buf) (S := buf.view.set) (View.setOn_subset_set _ _)) $$ Hb
  iintro Hb
  rw [hp]
  iapply (wp_count d L (ix1 p) (within1 p)) $$ H; iintro H
  iapply (wp_count d L (ix2 p) (within2 p)) $$ H; iintro H
  iapply (wp_count d L (ix3 p) (within3 p)) $$ H; iintro H
  iapply (wp_count d L (ix4 p) (within4 p)) $$ H; iintro H
  iapply (wp_count d L (ix5 p) (within5 p)) $$ H; iintro H
  rw [show count (F := F) L (ix6 p) = (count L (ix6 p) >>= fun _ => pure ⟨⟩) from (bind_pure _).symm]
  iapply (wp_count d L (ix6 p) (within6 p)) $$ H; iintro H
  rw [Prog.pure_eq_ret, wp_ret]
  imodintro
  iapply Hk
  isplitl [H]; · iexact H
  iexact Hb

/-- A loop of trips over a buffer of 8192 words, 512 trips of sixteen, adds the buffer's words to the histogram. -/
theorem wp_trips {α : Type} (l : Scf.Loop 32) (hok : l.OK) (hl : l.trips = 512) (buf : Memref sig .scVector .vmem S8192 .i32)
    (off : Fin l.trips → Fin 1 → Nat) (hoff : ∀ k a, off k a + S16.size a ≤ S8192.size a)
    (f : Buf (Elt F) (buf.view.loc (tV d L))) (pk : Packed) (w c : Nat)
    (hp : ∀ k, buf.view.readAt (Elt F) (Rect.unit (s := S8192) (off k) S16.size (hoff k)).toLoadRect f = sixteen (F := F) pk (2048 * w + (512 * c + k.val)))
    {kk : Unit → Body F L α} {Q : α → sProp 𝕄} :
    iprop(ptsH d L (hist pk w (512 * c)) ∗ buf.view.loc (tV d L) ↦[buf.view.set]{fullShare} f)
      ⊢ iprop((iprop(ptsH d L (hist pk w (512 * (c + 1))) ∗ buf.view.loc (tV d L) ↦[buf.view.set]{fullShare} f)
          -∗ wp frame (wpE (defs₀ (F := F)) 𝒱₀ (tV d L) none) Set.univ (kk ⟨⟩) Q)
        -∗ wp frame (wpE (defs₀ (F := F)) 𝒱₀ (tV d L) none) Set.univ
          (Scf.Loop.for l hok ⟨⟩ (fun k (_ : Unit) => trip (F := F) L buf (off k) (hoff k)) >>= kk) Q) := by
  iintro H Hk
  iapply (Scf.wp_for_bind frame (wpE (defs₀ (F := F)) 𝒱₀ (tV d L) none) Set.univ l.lb l.ub l.st hok ⟨⟩ _
    (fun n (_ : Unit) => iprop(ptsH d L (hist pk w (512 * c + n)) ∗ buf.view.loc (tV d L) ↦[buf.view.set]{fullShare} f)) ?_) $$ H
  · intro k _
    iintro H
    iapply (wp_trip d L buf (off k) (hoff k) f _ (hp k) _) $$ H
    iintro H
    iexact H
  · iintro %_ H
    iapply Hk
    rw [show Scf.trips l.lb l.ub l.st = 512 from hl]
    iexact H

/-! ## The four loops run that trip -/

/-- The four loops' bodies are one trip, of either buffer. -/
theorem body1_eq : k1_t1_body (F := F) L (Memref.whole main_v1_scv) (Memref.isWhole_whole _) (Memref.whole main_v2_scv) (Memref.isWhole_whole _)
      bufA (Memref.isWhole_whole _) bufB (Memref.isWhole_whole _) bufH (Memref.isWhole_whole _) cc1_scratch3 cc1_scratch4 cc1_scoped0 lanes (ones (F := F))
    = fun k _ => trip L bufA (k1_off3 k) (k1_off3_inb k) := by
  unfold k1_t1_body
  rw [k1_part1_eq_skeleton]
  rfl

theorem body2_eq : k1_t2_body (F := F) L (Memref.whole main_v1_scv) (Memref.isWhole_whole _) (Memref.whole main_v2_scv) (Memref.isWhole_whole _)
      bufA (Memref.isWhole_whole _) bufB (Memref.isWhole_whole _) bufH (Memref.isWhole_whole _) cc1_scratch3 cc1_scratch4 cc1_scoped0 lanes (ones (F := F))
    = fun k _ => trip L bufB (k1_off4 k) (k1_off4_inb k) := by
  unfold k1_t2_body
  rw [k1_part2_eq_skeleton]
  rfl

theorem body3_eq : k1_t3_body (F := F) L (Memref.whole main_v1_scv) (Memref.isWhole_whole _) (Memref.whole main_v2_scv) (Memref.isWhole_whole _)
      bufA (Memref.isWhole_whole _) bufB (Memref.isWhole_whole _) bufH (Memref.isWhole_whole _) cc1_scratch3 cc1_scratch4 cc1_scoped0 lanes (ones (F := F))
    = fun k _ => trip L bufA (k1_off5 k) (k1_off5_inb k) := by
  unfold k1_t3_body
  rw [k1_part3_eq_skeleton]
  rfl

theorem body4_eq : k1_t4_body (F := F) L (Memref.whole main_v1_scv) (Memref.isWhole_whole _) (Memref.whole main_v2_scv) (Memref.isWhole_whole _)
      bufA (Memref.isWhole_whole _) bufB (Memref.isWhole_whole _) bufH (Memref.isWhole_whole _) cc1_scratch3 cc1_scratch4 cc1_scoped0 lanes (ones (F := F))
    = fun k _ => trip L bufB (k1_off6 k) (k1_off6_inb k) := by
  unfold k1_t4_body
  rw [k1_part4_eq_skeleton]
  rfl

/-! ## The clearing stores -/

/-- The histogram buffer is cleared below row place `n`. -/
def Cleared (n : Nat) (f : Hst F) : Prop := ∀ j : S1792.Idx, (j 0).val < n → f j = zeros (F := F) j

/-- Nothing is cleared at first. -/
theorem cleared_zero (f : Hst F) : Cleared 0 f := fun _ h => absurd h (Nat.not_lt_zero _)
/-- Once 1792 entries are cleared, the histogram is zero. -/
theorem cleared_all {f : Hst F} (h : Cleared 1792 f) : f = zeros := funext fun j => h j (j 0).isLt

/-- The sixteen places from place `n`. -/
abbrev rowAt (n : Nat) (hn : ∀ a, (![n] : Fin 1 → Nat) a + S16.size a ≤ S1792.size a) : Rect S1792 := Rect.unit (s := S1792) ![n] S16.size hn

/-- A store of sixteen zeros clears sixteen more entries. -/
theorem cleared_write (n : Nat) (hn : ∀ a, (![n] : Fin 1 → Nat) a + S16.size a ≤ S1792.size a) {f : Hst F} (hf : Cleared n f) :
    Cleared (n + 16) ((bufH.access (rowAt n hn)).write (Elt F) f (k1_pay21 (F := F)) Finset.univ) := by
  intro j hj
  by_cases h : ∃ x, (bufH.access (rowAt n hn)).emb x = j
  · obtain ⟨x, rfl⟩ := h
    exact View.write_emb_of_mem _ _ (Finset.mem_univ x)
  · have hj' : (j 0).val < n := by
      by_contra hlt
      exact h ⟨fun a => ⟨(j 0).val - n, by obtain rfl : a = 0 := Subsingleton.elim _ _; show (j 0).val - n < 16; omega⟩,
        Rect.emb_eq_of_coords (rowAt n hn) _ j fun a => by
          obtain rfl : a = 0 := Subsingleton.elim _ _
          show (j 0).val = n + 1 * ((j 0).val - n)
          omega⟩
    refine (View.write_of_not_mem _ _ _ fun hm => h ?_).trans (hf j hj')
    obtain ⟨x, -, hx⟩ := Finset.mem_map.mp hm
    exact ⟨x, hx⟩

/-- The histogram buffer, cleared below place `n`. -/
abbrev ptsC (n : Nat) : sProp 𝕄 := iprop(∃ f, ⌜Cleared n f⌝ ∗ (tV d L).loc cc1_scratch2 ↦{fullShare} f)

/-- One store of the clearing sequence. -/
theorem wp_clear {α : Type} {Q : α → sProp 𝕄} (n : Nat) (hn : ∀ a, (![n] : Fin 1 → Nat) a + S16.size a ≤ S1792.size a)
    {hl : bufH.view.LoadsAt (rowAt n hn).toLoadRect} {hs : (bufH.access (rowAt n hn)).Stores Finset.univ}
    {hm : (Finset.univ : Finset (rowAt n hn).shape.Idx) = Finset.univ ∨ ∀ a, (rowAt n hn).stride a = 1} {k : ((rowAt n hn).shape.Idx → Elt F .f32) → PUnit → Body F L α} :
    ptsC d L n ⊢ iprop((∀ x, ptsC d L (n + 16) -∗ wp frame (wpE (defs₀ (F := F)) 𝒱₀ (tV d L) none) Set.univ (k x ⟨⟩) Q)
      -∗ wp frame (wpE (defs₀ (F := F)) 𝒱₀ (tV d L) none) Set.univ
        (.op (.load bufH (rowAt n hn).toLoadRect hl) fun x => .op (.store bufH (rowAt n hn) (k1_pay21 (F := F)) Finset.univ hs hm) (k x)) Q) := by
  iintro ⟨%f, %hf, H⟩ Hk
  iapply (wp_load 𝒱₀ (tV d L) none Set.univ (m := bufH) (S := Finset.univ) (Finset.subset_univ _)) $$ H
  iintro H
  iapply (wp_store 𝒱₀ (tV d L) none Set.univ (m := bufH) (r := rowAt n hn) (Mk := Finset.univ) (S := Finset.univ) (Finset.subset_univ _)) $$ H
  iintro H
  iapply Hk
  iexists _
  isplitr
  · ipureintro; exact cleared_write n hn hf
  · iexact H

end Cert.Hist

end
-- ==== Proof.Tile.lean ====
/-
  One vector subcore's task, from the memory it is handed to the memory it hands back: worker `w` is handed the packed
  words `32768 * w` to `32768 * w + 32767` and the result's places `1792 * w` to `1792 * w + 1791`, and leaves in
  those places its histogram of those words (`hist pk w 2048`).
-/
module

public import proofs.«01_k».proof.Proof.Trip

@[expose] public section

noncomputable section

namespace Cert.Hist

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## Pieces of the two arrays -/

/-- The result of the call as one function of the packed words: place `1792 * w + r` holds place `r` of worker `w`'s histogram. -/
def hists (pk : Packed) : S57344.Idx → F .f32 :=
  fun j => hist (F := F) pk ((j 0).val / 1792) 2048 fun a => ⟨(j 0).val % S1792.size a, Nat.mod_lt _ (by obtain rfl : a = 0 := Subsingleton.elim _ _; decide)⟩

/-- The packed words from `8192 * n` to `8192 * n + 8191`. -/
def chunkSet (n : Nat) : Finset S1048576.Idx := Finset.univ.filter fun j => (j 0).val / 8192 = n
/-- Worker `w`'s words. -/
def wordSet (w : Nat) : Finset S1048576.Idx := Finset.univ.filter fun j => (j 0).val / 32768 = w
/-- Worker `w`'s places of the result. -/
def outSet (w : Nat) : Finset S57344.Idx := Finset.univ.filter fun j => (j 0).val / 1792 = w

/-- The packed words and the result, as locations of device `d`. -/
abbrev wLoc (d : Dev nD) : Loc nD τ sig := (SparseCore.T d).loc main_v1
/-- The place of the counts. -/
abbrev oLoc (d : Dev nD) : Loc nD τ sig := (SparseCore.T d).loc main_v2

variable (d : Dev nD) (L : grid1.Coords)

/-- The worker's number: the mesh is read subcore by subcore. -/
abbrev wk (L : grid1.Coords) : Nat := 2 * (L 1).val + (L 0).val

/-- There are 32 workers. -/
theorem wk_lt : wk L < 32 := by
  have h0 : (L 0).val < 2 := (L 0).isLt
  have h1 : (L 1).val < 16 := (L 1).isLt
  unfold wk; omega

abbrev wordsV : Memref sig .scVector .hbm S1048576 .i32 := Memref.whole main_v1_scv
abbrev outV : Memref sig .scVector .hbm S57344 .f32 := Memref.whole main_v2_scv

/-- The four pieces of the words the task fetches, as it slices them, and the piece of the result it writes. -/
abbrev src0 : Memref sig .scVector .hbm S8192 .i32 := wordsV.slice (Rect.unit (s := S1048576) (k1_off1 L) S8192.size (k1_off1_inb L)) (fun _ => rfl)
abbrev src1 : Memref sig .scVector .hbm S8192 .i32 := wordsV.slice (Rect.unit (s := S1048576) (k1_off2 L 8192#32) S8192.size (k1_off2_inb L 0)) (fun _ => rfl)
abbrev src2 : Memref sig .scVector .hbm S8192 .i32 := wordsV.slice (Rect.unit (s := S1048576) (k1_off2 L 16384#32) S8192.size (k1_off2_inb L 1)) (fun _ => rfl)
abbrev src3 : Memref sig .scVector .hbm S8192 .i32 := wordsV.slice (Rect.unit (s := S1048576) (k1_off2 L 24576#32) S8192.size (k1_off2_inb L 2)) (fun _ => rfl)
abbrev dst : Memref sig .scVector .hbm S1792 .f32 := outV.slice (Rect.unit (s := S57344) (k1_off7 L) S1792.size (k1_off7_inb L)) (fun _ => rfl)

/-- A slice of 8192 words from `8192 * n`: its places, and what it reads. -/
theorem chunk_set (off : Fin 1 → Nat) (hoff : ∀ a, off a + S8192.size a ≤ S1048576.size a) (n : Nat) (h : off 0 = 8192 * n) :
    (wordsV.slice (Rect.unit (s := S1048576) off S8192.size hoff) (fun _ => rfl)).view.set = chunkSet n := by
  ext j
  constructor
  · intro hj
    obtain ⟨x, -, rfl⟩ := Finset.mem_map.mp hj
    refine Finset.mem_filter.mpr ⟨Finset.mem_univ _, ?_⟩
    have hx : (x 0).val < 8192 := (x 0).isLt
    show (off 0 + 1 * (x 0).val) / 8192 = n
    omega
  · intro hj
    have hj := (Finset.mem_filter.mp hj).2
    refine Finset.mem_map.mpr ⟨fun a => ⟨(j 0).val - off 0, by obtain rfl : a = 0 := Subsingleton.elim _ _; show (j 0).val - off 0 < 8192; omega⟩, Finset.mem_univ _, ?_⟩
    exact Rect.emb_eq_of_coords (Rect.unit (s := S1048576) off S8192.size hoff) _ j fun a => by
      obtain rfl : a = 0 := Subsingleton.elim _ _
      show (j 0).val = off 0 + 1 * ((j 0).val - off 0)
      omega

/-- What a chunk of the words reads as. -/
theorem chunk_read (off : Fin 1 → Nat) (hoff : ∀ a, off a + S8192.size a ≤ S1048576.size a) (pk : Packed) (x : S8192.Idx) :
    (wordsV.slice (Rect.unit (s := S1048576) off S8192.size hoff) (fun _ => rfl)).view.read (Elt F) pk x = pk (wordAt (off 0 + (x 0).val)) := by
  refine (View.read_apply _ _).trans ((cast_eq _ _).trans (congrArg pk (funext fun (a : Fin 1) => Fin.ext ?_)))
  obtain rfl : a = 0 := Subsingleton.elim _ _
  have hx : (x 0).val < 8192 := (x 0).isLt
  have ho : off 0 + 8192 ≤ 1048576 := hoff 0
  show off 0 + 1 * (x 0).val = (off 0 + (x 0).val) % 1048576
  omega

/-- The first chunk's offset. -/
theorem off1_zero : k1_off1 L 0 = 8192 * (4 * wk L + 0) := by
  rw [k1_off1_eq]; show 65536 * (L 1).val + 32768 * (L 0).val = _; unfold wk; omega
/-- The other chunks' offsets. -/
theorem off2_zero (r : Fin 3) : k1_off2 L (BitVec.ofNat 32 (8192 + 8192 * r.val)) 0 = 8192 * (4 * wk L + (r.val + 1)) := by
  rw [k1_off2_eq]; show 65536 * (L 1).val + 32768 * (L 0).val + 8192 * r.val + 8192 = _; unfold wk; omega
/-- The offset of the worker's counts. -/
theorem off7_zero : k1_off7 L 0 = 1792 * wk L := by
  rw [k1_off7_eq]; show 3584 * (L 1).val + 1792 * (L 0).val = _; unfold wk; omega

/-- The copy out covers the worker's counts. -/
theorem dst_set : (dst L).view.set = outSet (wk L) := by
  have h := off7_zero L
  ext j
  constructor
  · intro hj
    obtain ⟨x, -, rfl⟩ := Finset.mem_map.mp hj
    refine Finset.mem_filter.mpr ⟨Finset.mem_univ _, ?_⟩
    have hx : (x 0).val < 1792 := (x 0).isLt
    show (k1_off7 L 0 + 1 * (x 0).val) / 1792 = wk L
    omega
  · intro hj
    have hj := (Finset.mem_filter.mp hj).2
    refine Finset.mem_map.mpr ⟨fun a => ⟨(j 0).val - k1_off7 L 0, by obtain rfl : a = 0 := Subsingleton.elim _ _; show (j 0).val - k1_off7 L 0 < 1792; omega⟩, Finset.mem_univ _, ?_⟩
    exact Rect.emb_eq_of_coords (Rect.unit (s := S57344) (k1_off7 L) S1792.size (k1_off7_inb L)) _ j fun a => by
      obtain rfl : a = 0 := Subsingleton.elim _ _
      show (j 0).val = k1_off7 L 0 + 1 * ((j 0).val - k1_off7 L 0)
      omega

/-- The histogram written through that slice is the call's result on the worker's places. -/
theorem dst_write (pk : Packed) (f : S57344.Idx → F .f32) : ∀ j ∈ outSet (wk L),
    (dst L).view.write (Elt F) f (hist (F := F) pk (wk L) 2048) Finset.univ j = hists (F := F) pk j := by
  rw [← dst_set]
  intro j hj
  obtain ⟨x, -, rfl⟩ := Finset.mem_map.mp hj
  refine (View.write_emb_of_mem _ _ (Finset.mem_univ x)).trans ((cast_eq _ _).trans ?_)
  have h := off7_zero L
  have hx : (x 0).val < 1792 := (x 0).isLt
  have e : (((dst L).view.emb x) 0).val = k1_off7 L 0 + 1 * (x 0).val := rfl
  unfold hists
  rw [show (((dst L).view.emb x) 0).val / 1792 = wk L by rw [e]; omega]
  congr 1
  funext a
  apply Fin.ext
  obtain rfl : a = 0 := Subsingleton.elim _ _
  show (x 0).val = (((dst L).view.emb x) 0).val % 1792
  rw [e]; omega

/-! ## The task's own memory -/

abbrev cellA : GSem nD τ sig := (tV d L, .dma cc1_scratch3.sem)
abbrev cellB : GSem nD τ sig := (tV d L, .dma cc1_scratch4.sem)
abbrev cellO : GSem nD τ sig := (tV d L, .dma cc1_scoped0.sem)

/-- The task's semaphores: its two fetch semaphores, its write-out semaphore, and the rest. -/
theorem ownSems0_tile :
    (ownSems0 (tV d L) : sProp 𝕄)
      = iprop(semVal (cellA d L) 0 ∗ semVal (cellB d L) 0 ∗ semVal (cellO d L) 0
          ∗ bigSep ((((ownCells (tV d L)).erase (cellA d L)).erase (cellB d L)).erase (cellO d L)) fun g => semVal g 0) := by
  have own : ∀ s : DmaSem sig, (SemLoc.dma s : SemLoc sig).isScoped .scVector = true → ((tV d L, .dma s) : GSem nD τ sig) ∈ ownCells (tV d L) :=
    fun s hs => mem_ownCells.mpr ⟨rfl, hs⟩
  have ne : ∀ s s' : DmaSem sig, s ≠ s' → ((tV d L, .dma s) : GSem nD τ sig) ≠ (tV d L, .dma s') :=
    fun s s' h e => h (by injection e with _ e; injection e)
  unfold SparseCore.Cfg.ownSems0
  rw [SparseCore.bigSep_erase' (own cc1_scratch3.sem (by decide)),
    SparseCore.bigSep_erase' (Finset.mem_erase.mpr ⟨ne _ _ (by decide), own cc1_scratch4.sem (by decide)⟩),
    SparseCore.bigSep_erase' (Finset.mem_erase.mpr ⟨ne _ _ (by decide), Finset.mem_erase.mpr ⟨ne _ _ (by decide), own cc1_scoped0.sem (by decide)⟩⟩)]

/-- The task's buffers: its two word buffers and its histogram, at some contents, and the rest. -/
theorem ownBufs_tile :
    (ownBufs (tV d L) : sProp 𝕄)
      = iprop((∃ f, (tV d L).loc cc1_scratch0 ↦{fullShare} f) ∗ (∃ f, (tV d L).loc cc1_scratch1 ↦{fullShare} f)
          ∗ (∃ f, (tV d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨ne _ _ (by decide), SparseCore.Cfg.mem_ownRefs_of_owner (p := Proc.scVector (cV L) (jV L)) (b := (Proc.scVector (cV L) (jV L)).devRef cc1_scratch1) rfl⟩),
    SparseCore.bigSep_erase' (Finset.mem_erase.mpr ⟨ne _ _ (by decide), Finset.mem_erase.mpr ⟨ne _ _ (by decide), SparseCore.Cfg.mem_ownRefs_of_owner (p := Proc.scVector (cV L) (jV L)) (b := (Proc.scVector (cV L) (jV L)).devRef cc1_scratch2) rfl⟩⟩)]

/-! ## The task -/

/-- The words the task is handed and the places it is handed, at contents `f`. -/
abbrev wordPts (w : Nat) (pk : Packed) : sProp 𝕄 := wLoc d ↦[wordSet w]{fullShare} pk
abbrev outPts (w : Nat) (f : S57344.Idx → F .f32) : sProp 𝕄 := oLoc d ↦[outSet w]{fullShare} f
abbrev chunkPts (n : Nat) (pk : Packed) : sProp 𝕄 := wLoc d ↦[chunkSet n]{fullShare} pk

/-- A worker's four chunks are disjoint. -/
theorem chunks_disjoint (w : Nat) : ∀ i ∈ (Finset.univ : Finset (Fin 4)), ∀ j ∈ (Finset.univ : Finset (Fin 4)), i ≠ j →
    Disjoint (chunkSet (4 * w + i.val)) (chunkSet (4 * w + j.val)) := by
  intro i _ j _ h
  refine Finset.disjoint_left.mpr fun x hi hj => h (Fin.ext ?_)
  have hi := (Finset.mem_filter.mp hi).2
  have hj := (Finset.mem_filter.mp hj).2
  omega

/-- A worker's four chunks are its words. -/
theorem chunks_union (w : Nat) : (Finset.univ : Finset (Fin 4)).biUnion (fun i => chunkSet (4 * w + i.val)) = wordSet w := by
  ext x
  simp only [Finset.mem_biUnion, Finset.mem_univ, true_and, chunkSet, wordSet, Finset.mem_filter]
  constructor
  · rintro ⟨i, hi⟩
    have := i.isLt
    omega
  · intro h
    exact ⟨⟨(x 0).val / 8192 % 4, Nat.mod_lt _ (by decide)⟩, by show (x 0).val / 8192 = 4 * w + (x 0).val / 8192 % 4; omega⟩

/-- A worker's words are its four pieces of 8192. -/
theorem wordPts_split (w : Nat) (pk : Packed) :
    (wordPts d w pk : sProp 𝕄) = iprop(chunkPts d (4 * w + 0) pk ∗ chunkPts d (4 * w + 1) pk ∗ chunkPts d (4 * w + 2) pk ∗ chunkPts d (4 * w + 3) pk) := by
  have h := pointsTo_biUnion (Ix := HIx 1) (Val := Elt F) (Name := ℕ) (U := UU) (Lvl := ℕ) (ℓ := wLoc d) (q := fullShare) (f := pk) (Finset.univ : Finset (Fin 4)) (fun i => chunkSet (4 * w + i.val)) (chunks_disjoint w)
  refine ((congrArg (fun S => (wLoc d ↦[S]{fullShare} pk : sProp 𝕄)) (chunks_union w).symm).trans h).trans ?_
  rw [show (Finset.univ : Finset (Fin 4)) = {0, 1, 2, 3} from by decide, bigSep_insert (by decide), bigSep_insert (by decide), bigSep_insert (by decide), bigSep_singleton]
  rfl

/-- Each of the four loops makes 512 trips. -/
theorem trips1 : k1_t1_loop.trips = 512 := by decide
theorem trips2 : k1_t2_loop.trips = 512 := by decide
theorem trips3 : k1_t3_loop.trips = 512 := by decide
theorem trips4 : k1_t4_loop.trips = 512 := by decide

/-- The four chunks, as the program's slices. -/
theorem pts_src0 (pk : Packed) : ((src0 L).view.loc (tV d L) ↦[(src0 L).view.set]{fullShare} pk : sProp 𝕄) = chunkPts d (4 * wk L + 0) pk := by
  rw [chunk_set _ _ _ (off1_zero L)]
theorem pts_src1 (pk : Packed) : ((src1 L).view.loc (tV d L) ↦[(src1 L).view.set]{fullShare} pk : sProp 𝕄) = chunkPts d (4 * wk L + 1) pk := by
  exact congrArg (fun S => (wLoc d ↦[S]{fullShare} pk : sProp 𝕄)) (chunk_set _ (k1_off2_inb L 0) _ (off2_zero L 0))
theorem pts_src2 (pk : Packed) : ((src2 L).view.loc (tV d L) ↦[(src2 L).view.set]{fullShare} pk : sProp 𝕄) = chunkPts d (4 * wk L + 2) pk := by
  exact congrArg (fun S => (wLoc d ↦[S]{fullShare} pk : sProp 𝕄)) (chunk_set _ (k1_off2_inb L 1) _ (off2_zero L 1))
theorem pts_src3 (pk : Packed) : ((src3 L).view.loc (tV d L) ↦[(src3 L).view.set]{fullShare} pk : sProp 𝕄) = chunkPts d (4 * wk L + 3) pk := by
  exact congrArg (fun S => (wLoc d ↦[S]{fullShare} pk : sProp 𝕄)) (chunk_set _ (k1_off2_inb L 2) _ (off2_zero L 2))
/-- The worker's counts, as the program's slice. -/
theorem pts_dst (f : S57344.Idx → F .f32) : ((dst L).view.loc (tV d L) ↦[(dst L).view.set]{fullShare} f : sProp 𝕄) = outPts d (wk L) f := by
  rw [dst_set]
/-- The two buffers and the histogram, as the program's views. -/
theorem pts_bufA (f : S8192.Idx → BitVec 32) : (bufA.view.loc (tV d L) ↦[bufA.view.set]{fullShare} f : sProp 𝕄) = (tV d L).loc cc1_scratch0 ↦{fullShare} f := by
  simp only [Memref.view_whole, View.set_whole]
theorem pts_bufB (f : S8192.Idx → BitVec 32) : (bufB.view.loc (tV d L) ↦[bufB.view.set]{fullShare} f : sProp 𝕄) = (tV d L).loc cc1_scratch1 ↦{fullShare} f := by
  simp only [Memref.view_whole, View.set_whole]
theorem pts_bufH (f : Hst F) : (bufH.view.loc (tV d L) ↦[bufH.view.set]{fullShare} f : sProp 𝕄) = (tV d L).loc cc1_scratch2 ↦{fullShare} f := by
  simp only [Memref.view_whole, View.set_whole]
theorem pts_hist (f : Hst F) : (ptsH d L f : sProp 𝕄) = bufH.view.loc (tV d L) ↦[bufH.view.set]{fullShare} f := by
  exact congrArg (fun S => (bufH.view.loc (tV d L) ↦[S]{fullShare} f : sProp 𝕄)) ((Memref.set_access_whole cc1_scratch2).trans (View.set_whole _).symm)

/-- Piece `n` of the words, as it lies in a word buffer. -/
def landed (pk : Packed) (n : Nat) : S8192.Idx → BitVec 32 := fun x => pk (wordAt (8192 * n + (x 0).val))

/-- After a copy in has landed in the first buffer, the buffer holds its chunk. -/
theorem pts_landA (pk : Packed) (n : Nat) (f : S8192.Idx → BitVec 32) (v : S8192.Idx → BitVec 32) (hv : v = landed pk n) :
    (bufA.view.loc (tV d L) ↦[bufA.view.set]{fullShare} bufA.view.writes (Elt F) f [⟨Rect.whole S8192, v⟩] : sProp 𝕄)
      = bufA.view.loc (tV d L) ↦[bufA.view.set]{fullShare} landed pk n :=
  congrArg (fun g => (bufA.view.loc (tV d L) ↦[bufA.view.set]{fullShare} g : sProp 𝕄)) ((Memref.write_access_whole_univ (Elt F) cc1_scratch0 f v).trans hv)
/-- After a copy in has landed in the second buffer, the buffer holds its chunk. -/
theorem pts_landB (pk : Packed) (n : Nat) (f : S8192.Idx → BitVec 32) (v : S8192.Idx → BitVec 32) (hv : v = landed pk n) :
    (bufB.view.loc (tV d L) ↦[bufB.view.set]{fullShare} bufB.view.writes (Elt F) f [⟨Rect.whole S8192, v⟩] : sProp 𝕄)
      = bufB.view.loc (tV d L) ↦[bufB.view.set]{fullShare} landed pk n :=
  congrArg (fun g => (bufB.view.loc (tV d L) ↦[bufB.view.set]{fullShare} g : sProp 𝕄)) ((Memref.write_access_whole_univ (Elt F) cc1_scratch1 f v).trans hv)

/-- A write through a whole view, spelled as a list of one piece, is that write. -/
theorem writes_one {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ :=
  (View.write_univ_eq_writes_whole v f [] w).symm

/-- After the copy out has landed, the worker's counts are its histogram. -/
theorem pts_landO (f g : S57344.Idx → F .f32) (v : Hst F)
    (hg : ∀ j ∈ outSet (wk L), (dst L).view.write (Elt F) f v Finset.univ j = g j) :
    ((dst L).view.loc (tV d L) ↦[(dst L).view.set]{fullShare} (dst L).view.writes (Elt F) f [⟨Rect.whole S1792, v⟩] : sProp 𝕄)
      = outPts d (wk L) g := by
  refine (congrArg (fun S => (oLoc d ↦[S]{fullShare} (dst L).view.writes (Elt F) f [⟨Rect.whole S1792, v⟩] : sProp 𝕄)) (dst_set L)).trans ?_
  refine pointsTo_congr fun j hj => (congrFun (writes_one (dst L).view f v) j).trans (hg j hj)

/-- The cleared histogram is the histogram after no trips. -/
theorem pts_hist0 (pk : Packed) : (bufH.view.loc (tV d L) ↦[bufH.view.set]{fullShare} (zeros : Hst F) : sProp 𝕄) = ptsH d L (hist pk (wk L) (512 * 0)) :=
  (pts_hist d L zeros).symm

/-- Sixteen words loaded from a landed piece. -/
theorem landed_readA (pk : Packed) (n c : Nat) (hc : n = 4 * wk L + c) (k : Nat) (hk : k < 512) (off : Fin 1 → Nat) (hoff : ∀ a, off a + S16.size a ≤ S8192.size a)
    (ho : off = ![16 * k]) :
    bufA.view.readAt (Elt F) (Rect.unit (s := S8192) off S16.size hoff).toLoadRect (landed pk n) = sixteen (F := F) pk (2048 * wk L + (512 * c + k)) := by
  subst hc ho
  funext x
  have hx : (x 0).val < 16 := (x 0).isLt
  show pk (wordAt (8192 * (4 * wk L + c) + (16 * k + 1 * (x 0).val))) = pk (wordAt (16 * (2048 * wk L + (512 * c + k)) + (x 0).val))
  congr 2; omega
/-- The sixteen words that a trip reads from the second buffer. -/
theorem landed_readB (pk : Packed) (n c : Nat) (hc : n = 4 * wk L + c) (k : Nat) (hk : k < 512) (off : Fin 1 → Nat) (hoff : ∀ a, off a + S16.size a ≤ S8192.size a)
    (ho : off = ![16 * k]) :
    bufB.view.readAt (Elt F) (Rect.unit (s := S8192) off S16.size hoff).toLoadRect (landed pk n) = sixteen (F := F) pk (2048 * wk L + (512 * c + k)) := by
  subst hc ho
  funext x
  have hx : (x 0).val < 16 := (x 0).isLt
  show pk (wordAt (8192 * (4 * wk L + c) + (16 * k + 1 * (x 0).val))) = pk (wordAt (16 * (2048 * wk L + (512 * c + k)) + (x 0).val))
  congr 2; omega

set_option maxRecDepth 65536 in
set_option maxHeartbeats 4000000 in
/-- A tile's program counts its words and copies its histogram out. -/
theorem tile_body (pk : Packed) (f0 : S57344.Idx → F .f32) (O : CellTallies nD τ sig (HIx 1)) (W : Waits sig (HIx 1)) (hO : ∀ g, O g none = 0) :
    iprop(levAts (K (F := F)).L (K (F := F)).lev ∗ emp ∗ (wordPts d (wk L) pk ∗ outPts d (wk L) f0)
        ∗ scopedBufs (tV d L) ∗ scopedSems0 (tV d L) ∗ owes (tV d L) O W)
      ⊢ wp frame (wpE (defs₀ (F := F)) 𝒱₀ (tV d L) none) Set.univ
          (cc1_sc_hist L wordsV (Memref.isWhole_whole _) outV (Memref.isWhole_whole _)
            bufA (Memref.isWhole_whole _) bufB (Memref.isWhole_whole _) bufH (Memref.isWhole_whole _) cc1_scratch3 cc1_scratch4 cc1_scoped0)
          fun _ => iprop((wordPts d (wk L) pk ∗ outPts d (wk L) (hists (F := F) pk)) ∗ scopedBufs (tV d L) ∗ scopedSems0 (tV d L)
            ∗ ∃ W', ⌜∀ p ∈ W', p ∈ W ∨ p.2 = none ∨ p.2 = some (0 : Fin 1)⌝ ∗ owes (tV d L) O W') := by
  rw [(K (F := F)).scopedBufs_V launchFacts d (cV L) (jV L), SparseCore.Cfg.scopedSems0_V (Val := Elt F) d (cV L) (jV L), ownSems0_tile, ownBufs_tile]
  iintro ⟨#Hlv, -, ⟨Hw, Ho⟩, ⟨⟨%fa, Ha⟩, ⟨%fb, Hb⟩, ⟨%fh, Hh⟩, Hbufs⟩, ⟨HsA, HsB, HsO, Hsems⟩, HO⟩
  ihave Hmw := (show levAts (K (F := F)).L (K (F := F)).lev ⊢ Transfers.MayWaits (tV d L) (default : HIx 1) O from
    (K (F := F)).mayWaits_none (thr := tV d L) hO) $$ Hlv
  ihave Hw' := (Entails.of_eq (wordPts_split (F := F) d (wk L) pk)) $$ Hw
  icases Hw' with ⟨Hw0, Hw1, Hw2, Hw3⟩
  simp only [cc1_sc_hist_eq_skeleton]; unfold cc1_sc_hist_skel
  simp only [k1_part11_eq_skeleton]; unfold k1_part11_skel
  simp only [k1_part5_eq_skeleton, k1_part6_eq_skeleton, k1_part7_eq_skeleton, k1_part8_eq_skeleton, k1_part9_eq_skeleton, k1_part10_eq_skeleton]
  unfold k1_part5_skel k1_part6_skel k1_part7_skel k1_part8_skel k1_part9_skel k1_part10_skel
  simp only [Prog.lift, Prog.bind_op, Prog.bind_ret, Prog.pure_eq_ret, bind_assoc]
  ihave Hh : ptsC d L 0 $$ [Hh]
  · iexists fh; isplitr
    · ipureintro; exact cleared_zero fh
    · iexact Hh
  iterate 112
    iapply (wp_clear d L _) $$ Hh
    iintro %_ Hh
  icases Hh with ⟨%fz, %hz, Hh⟩
  rw [cleared_all hz]
  ihave Hw0' := (Entails.of_eq (pts_src0 (F := F) d L pk).symm) $$ Hw0
  ihave Hw1' := (Entails.of_eq (pts_src1 (F := F) d L pk).symm) $$ Hw1
  ihave Hw2' := (Entails.of_eq (pts_src2 (F := F) d L pk).symm) $$ Hw2
  ihave Hw3' := (Entails.of_eq (pts_src3 (F := F) d L pk).symm) $$ Hw3
  ihave Ho' := (Entails.of_eq (pts_dst (F := F) d L f0).symm) $$ Ho
  ihave Ha' := (Entails.of_eq (pts_bufA (F := F) d L fa).symm) $$ Ha
  ihave Hb' := (Entails.of_eq (pts_bufB (F := F) d L fb).symm) $$ Hb
  ihave Hh' := (Entails.of_eq (pts_bufH (F := F) d L zeros).symm) $$ Hh
  sl_exec (disch := exact View.amount_pos _ _ (show 0 < S8192.numel by decide))
  have e1 := body1_eq (F := F) L
  have e2 := body2_eq (F := F) L
  have e3 := body3_eq (F := F) L
  have e4 := body4_eq (F := F) L
  unfold lanes ones at e1 e2 e3 e4
  rw [e1, e2, e3, e4]
  ihave Ha := (Entails.of_eq (pts_landA (F := F) d L pk (4 * wk L + 0) _ (tile_body.sl.dma0 (F := F) L pk)
    (funext fun x => (chunk_read (F := F) _ (k1_off1_inb L) pk x).trans (congrArg (fun n => pk (wordAt (n + (x 0).val))) (off1_zero L))))) $$ Ha'
  ihave Hh := (Entails.of_eq (pts_hist0 (F := F) d L pk)) $$ Hh'
  iapply (wp_trips d L k1_t1_loop k1_t1_ok trips1 bufA k1_off3 k1_off3_inb (landed pk (4 * wk L + 0)) pk (wk L) 0
    (fun k => landed_readA L pk _ 0 rfl k.val (k.isLt.trans_eq trips1) _ _ (k1_off3_eq k))) $$ [Hh Ha]
  · isplitl [Hh]; · iexact Hh
    iexact Ha
  iintro ⟨Hh, Ha⟩
  sl_exec (disch := exact View.amount_pos _ _ (show 0 < S8192.numel by decide))
  ihave Hb := (Entails.of_eq (pts_landB (F := F) d L pk (4 * wk L + 1) _ (tile_body.sl.dma0_1 (F := F) L pk)
    (funext fun x => (chunk_read (F := F) _ (k1_off2_inb L 0) pk x).trans (congrArg (fun n => pk (wordAt (n + (x 0).val))) (off2_zero L 0))))) $$ Hb'
  iapply (wp_trips d L k1_t2_loop k1_t2_ok trips2 bufB k1_off4 k1_off4_inb (landed pk (4 * wk L + 1)) pk (wk L) 1
    (fun k => landed_readB L pk _ 1 rfl k.val (k.isLt.trans_eq trips2) _ _ (k1_off4_eq k))) $$ [Hh Hb]
  · isplitl [Hh]; · iexact Hh
    iexact Hb
  iintro ⟨Hh, Hb⟩
  sl_exec (disch := exact View.amount_pos _ _ (show 0 < S8192.numel by decide))
  ihave Ha := (Entails.of_eq (pts_landA (F := F) d L pk (4 * wk L + 2) _ (tile_body.sl.dma0_2 (F := F) L pk)
    (funext fun x => (chunk_read (F := F) _ (k1_off2_inb L 1) pk x).trans (congrArg (fun n => pk (wordAt (n + (x 0).val))) (off2_zero L 1))))) $$ Ha
  iapply (wp_trips d L k1_t3_loop k1_t3_ok trips3 bufA k1_off5 k1_off5_inb (landed pk (4 * wk L + 2)) pk (wk L) 2
    (fun k => landed_readA L pk _ 2 rfl k.val (k.isLt.trans_eq trips3) _ _ (k1_off5_eq k))) $$ [Hh Ha]
  · isplitl [Hh]; · iexact Hh
    iexact Ha
  iintro ⟨Hh, Ha⟩
  sl_exec (disch := exact View.amount_pos _ _ (show 0 < S8192.numel by decide))
  ihave Hb := (Entails.of_eq (pts_landB (F := F) d L pk (4 * wk L + 3) _ (tile_body.sl.dma0_3 (F := F) L pk)
    (funext fun x => (chunk_read (F := F) _ (k1_off2_inb L 2) pk x).trans (congrArg (fun n => pk (wordAt (n + (x 0).val))) (off2_zero L 2))))) $$ Hb
  iapply (wp_trips d L k1_t4_loop k1_t4_ok trips4 bufB k1_off6 k1_off6_inb (landed pk (4 * wk L + 3)) pk (wk L) 3
    (fun k => landed_readB L pk _ 3 rfl k.val (k.isLt.trans_eq trips4) _ _ (k1_off6_eq k))) $$ [Hh Hb]
  · isplitl [Hh]; · iexact Hh
    iexact Hb
  iintro ⟨Hh, Hb⟩
  ihave Hh := (Entails.of_eq (pts_hist (F := F) d L _)) $$ Hh
  sl_exec (disch := exact View.amount_pos _ _ (show 0 < S1792.numel by decide))
  sl_step
  isplitl [Hw0' Hw1' Hw2' Hw3' Ho']
  · isplitl [Hw0' Hw1' Hw2' Hw3']
    · rw [wordPts_split]
      isplitl [Hw0']; · iapply (Entails.of_eq (pts_src0 (F := F) d L pk)); iexact Hw0'
      isplitl [Hw1']; · iapply (Entails.of_eq (pts_src1 (F := F) d L pk)); iexact Hw1'
      isplitl [Hw2']; · iapply (Entails.of_eq (pts_src2 (F := F) d L pk)); iexact Hw2'
      iapply (Entails.of_eq (pts_src3 (F := F) d L pk)); iexact Hw3'
    · iapply (Entails.of_eq (pts_landO (F := F) d L f0 _ (tile_body.sl.dma0_4 (F := F) L pk) (dst_write L pk f0))); iexact Ho'
  isplitl [Ha Hb Hh Hbufs]
  · isplitl [Ha]
    · iexists _; iapply (Entails.of_eq (pts_bufA (F := F) d L _)); iexact Ha
    isplitl [Hb]
    · iexists _; iapply (Entails.of_eq (pts_bufB (F := F) d L _)); iexact Hb
    isplitl [Hh]
    · iexists _; iapply (Entails.of_eq (pts_bufH (F := F) d L _)); iexact Hh
    iexact Hbufs
  isplitl [HsA HsB HsO Hsems]
  · isplitl [HsA]; · iexact HsA
    isplitl [HsB]; · iexact HsB
    isplitl [HsO]; · iexact HsO
    iexact Hsems
  iexists _
  isplitr
  swap
  · iexact HO
  · ipureintro
    intro p _
    rcases p.2 with _ | q
    · exact .inr (.inl rfl)
    · exact .inr (.inr (congrArg some (Subsingleton.elim q 0)))

end Cert.Hist

end
-- ==== Proof.Launch.lean ====
/-
  The histogram call's handshakes: what the two SparseCores and their thirty-two tiles are handed and hand back, how
  the two arrays are dealt to them and joined again, and each tile's obligation.
-/
module

public import proofs.«01_k».proof.Proof.Tile

@[expose] public section

noncomputable section

namespace Cert.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The two arrays dealt out -/

/-- SparseCore `c`'s share of the words and of the result: its sixteen workers `2 * i + c`. -/
def coreWords (c : Nat) : Finset S1048576.Idx := Finset.univ.filter fun j => (j 0).val / 32768 % 2 = c
/-- The part of the counts that the tiles of SparseCore `c` write. -/
def coreOuts (c : Nat) : Finset S57344.Idx := Finset.univ.filter fun j => (j 0).val / 1792 % 2 = c

/-- A SparseCore's words are its tiles' words together. -/
theorem coreWords_union (c : Nat) (hc : c < 2) : (Finset.univ : Finset (Fin 16)).biUnion (fun i => wordSet (2 * i.val + c)) = coreWords c := by
  ext x
  simp only [Finset.mem_biUnion, Finset.mem_univ, true_and, coreWords, wordSet, Finset.mem_filter]
  have hx : (x 0).val < 1048576 := (x 0).isLt
  constructor
  · rintro ⟨i, hi⟩; omega
  · intro h
    exact ⟨⟨(x 0).val / 65536, by omega⟩, by show (x 0).val / 32768 = 2 * ((x 0).val / 65536) + c; omega⟩

/-- A SparseCore's counts are its tiles' counts together. -/
theorem coreOuts_union (c : Nat) (hc : c < 2) : (Finset.univ : Finset (Fin 16)).biUnion (fun i => outSet (2 * i.val + c)) = coreOuts c := by
  ext x
  simp only [Finset.mem_biUnion, Finset.mem_univ, true_and, coreOuts, outSet, Finset.mem_filter]
  have hx : (x 0).val < 57344 := (x 0).isLt
  constructor
  · rintro ⟨i, hi⟩; omega
  · intro h
    exact ⟨⟨(x 0).val / 3584, by omega⟩, by show (x 0).val / 1792 = 2 * ((x 0).val / 3584) + c; omega⟩

/-- All words are the two SparseCores' words together. -/
theorem allWords_union : (Finset.univ : Finset (Fin 2)).biUnion (fun c => coreWords c.val) = Finset.univ := by
  ext x
  simp only [Finset.mem_biUnion, Finset.mem_univ, true_and, coreWords, Finset.mem_filter, iff_true]
  exact ⟨⟨(x 0).val / 32768 % 2, Nat.mod_lt _ (by decide)⟩, rfl⟩
/-- All counts are the two SparseCores' counts together. -/
theorem allOuts_union : (Finset.univ : Finset (Fin 2)).biUnion (fun c => coreOuts c.val) = Finset.univ := by
  ext x
  simp only [Finset.mem_biUnion, Finset.mem_univ, true_and, coreOuts, Finset.mem_filter, iff_true]
  exact ⟨⟨(x 0).val / 1792 % 2, Nat.mod_lt _ (by decide)⟩, rfl⟩

/-- Two tiles of a SparseCore share no words. -/
theorem words_disjoint (c : Nat) : ∀ i ∈ (Finset.univ : Finset (Fin 16)), ∀ j ∈ (Finset.univ : Finset (Fin 16)), i ≠ j →
    Disjoint (wordSet (2 * i.val + c)) (wordSet (2 * j.val + c)) := by
  intro i _ j _ h
  refine Finset.disjoint_left.mpr fun x hi hj => h (Fin.ext ?_)
  have hi := (Finset.mem_filter.mp hi).2
  have hj := (Finset.mem_filter.mp hj).2
  omega
/-- Two tiles of a SparseCore share no counts. -/
theorem outs_disjoint (c : Nat) : ∀ i ∈ (Finset.univ : Finset (Fin 16)), ∀ j ∈ (Finset.univ : Finset (Fin 16)), i ≠ j →
    Disjoint (outSet (2 * i.val + c)) (outSet (2 * j.val + c)) := by
  intro i _ j _ h
  refine Finset.disjoint_left.mpr fun x hi hj => h (Fin.ext ?_)
  have hi := (Finset.mem_filter.mp hi).2
  have hj := (Finset.mem_filter.mp hj).2
  omega
/-- The two SparseCores share no words. -/
theorem coreWords_disjoint : ∀ i ∈ (Finset.univ : Finset (Fin 2)), ∀ j ∈ (Finset.univ : Finset (Fin 2)), i ≠ j →
    Disjoint (coreWords i.val) (coreWords j.val) := by
  intro i _ j _ h
  refine Finset.disjoint_left.mpr fun x hi hj => h (Fin.ext ?_)
  exact ((Finset.mem_filter.mp hi).2).symm.trans (Finset.mem_filter.mp hj).2
/-- The two SparseCores share no counts. -/
theorem coreOuts_disjoint : ∀ i ∈ (Finset.univ : Finset (Fin 2)), ∀ j ∈ (Finset.univ : Finset (Fin 2)), i ≠ j →
    Disjoint (coreOuts i.val) (coreOuts j.val) := by
  intro i _ j _ h
  refine Finset.disjoint_left.mpr fun x hi hj => h (Fin.ext ?_)
  exact ((Finset.mem_filter.mp hi).2).symm.trans (Finset.mem_filter.mp hj).2

variable (d : Dev nD)

abbrev coreWordPts (c : Nat) (pk : Packed) : sProp 𝕄 := wLoc d ↦[coreWords c]{fullShare} pk
abbrev coreOutPts (c : Nat) (f : S57344.Idx → F .f32) : sProp 𝕄 := oLoc d ↦[coreOuts c]{fullShare} f

/-- A SparseCore's words split among its tiles. -/
theorem coreWordPts_split (c : Nat) (hc : c < 2) (pk : Packed) :
    (coreWordPts d c pk : sProp 𝕄) = bigSep Finset.univ fun i : Fin 16 => wordPts d (2 * i.val + c) pk := by
  have h := pointsTo_biUnion (Ix := HIx 1) (Val := Elt F) (Name := ℕ) (U := UU) (Lvl := ℕ) (ℓ := wLoc d) (q := fullShare) (f := pk)
    (Finset.univ : Finset (Fin 16)) (fun i => wordSet (2 * i.val + c)) (words_disjoint c)
  exact (congrArg (fun S => (wLoc d ↦[S]{fullShare} pk : sProp 𝕄)) (coreWords_union c hc).symm).trans h
/-- A SparseCore's counts split among its tiles. -/
theorem coreOutPts_split (c : Nat) (hc : c < 2) (f : S57344.Idx → F .f32) :
    (coreOutPts d c f : sProp 𝕄) = bigSep Finset.univ fun i : Fin 16 => outPts d (2 * i.val + c) f := by
  have h := pointsTo_biUnion (Ix := HIx 1) (Val := Elt F) (Name := ℕ) (U := UU) (Lvl := ℕ) (ℓ := oLoc d) (q := fullShare) (f := f)
    (Finset.univ : Finset (Fin 16)) (fun i => outSet (2 * i.val + c)) (outs_disjoint c)
  exact (congrArg (fun S => (oLoc d ↦[S]{fullShare} f : sProp 𝕄)) (coreOuts_union c hc).symm).trans h
/-- All words split among the two SparseCores. -/
theorem allWordPts_split (pk : Packed) :
    (wLoc d ↦{fullShare} pk : sProp 𝕄) = bigSep Finset.univ fun c : Fin 2 => coreWordPts d c.val pk := by
  have h := pointsTo_biUnion (Ix := HIx 1) (Val := Elt F) (Name := ℕ) (U := UU) (Lvl := ℕ) (ℓ := wLoc d) (q := fullShare) (f := pk)
    (Finset.univ : Finset (Fin 2)) (fun c => coreWords c.val) coreWords_disjoint
  exact (congrArg (fun S => (wLoc d ↦[S]{fullShare} pk : sProp 𝕄)) allWords_union.symm).trans h
/-- All counts split among the two SparseCores. -/
theorem allOutPts_split (f : S57344.Idx → F .f32) :
    (oLoc d ↦{fullShare} f : sProp 𝕄) = bigSep Finset.univ fun c : Fin 2 => coreOutPts d c.val f := by
  have h := pointsTo_biUnion (Ix := HIx 1) (Val := Elt F) (Name := ℕ) (U := UU) (Lvl := ℕ) (ℓ := oLoc d) (q := fullShare) (f := f)
    (Finset.univ : Finset (Fin 2)) (fun c => coreOuts c.val) coreOuts_disjoint
  exact (congrArg (fun S => (oLoc d ↦[S]{fullShare} f : sProp 𝕄)) allOuts_union.symm).trans h

/-! ## What the handshakes carry -/

-- `pk` are the packed words and `f0` the result's contents when the call starts, device by device.
variable (pk : Dev nD → Packed) (f0 : Dev nD → S57344.Idx → F .f32)

/-- A SparseCore takes its workers' words and places of the result and brings the words back and the places at the
    histograms; each of its tiles takes and brings one worker's. -/
def P : (K (F := F)).Pay (nD := nD) (Val := Elt F) (Name := ℕ) (U := UU) where
  st := fun q d c => match q with | 0 => iprop(coreWordPts d c.val (pk d) ∗ coreOutPts d c.val (f0 d))
  dn := fun q d c => match q with | 0 => iprop(coreWordPts d c.val (pk d) ∗ coreOutPts d c.val (hists (F := F) (pk d)))
  go := fun q d c i => match q with | 0 => iprop(wordPts d (2 * i.val + c.val) (pk d) ∗ outPts d (2 * i.val + c.val) (f0 d))
  td := fun q d c i => match q with | 0 => iprop(wordPts d (2 * i.val + c.val) (pk d) ∗ outPts d (2 * i.val + c.val) (hists (F := F) (pk d)))
  x := fun _ _ => iprop(emp)

instance P_storable : (P (F := F) pk f0).IsStorable where
  st q d c := match q with
    | 0 => (inferInstance : BI.Storable (upEmb : UEmb _ 𝕄) iprop(coreWordPts d c.val (pk d) ∗ coreOutPts d c.val (f0 d)))
  dn q d c := match q with
    | 0 => (inferInstance : BI.Storable (upEmb : UEmb _ 𝕄) iprop(coreWordPts d c.val (pk d) ∗ coreOutPts d c.val (hists (F := F) (pk d))))
  go q d c i := match q with
    | 0 => (inferInstance : BI.Storable (upEmb : UEmb _ 𝕄) iprop(wordPts d (2 * i.val + c.val) (pk d) ∗ outPts d (2 * i.val + c.val) (f0 d)))
  td q d c i := match q with
    | 0 => (inferInstance : BI.Storable (upEmb : UEmb _ 𝕄) iprop(wordPts d (2 * i.val + c.val) (pk d) ∗ outPts d (2 * i.val + c.val) (hists (F := F) (pk d))))

/-- A product over the sixteen tiles of the call. -/
theorem over_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- A product over the two SparseCores of the call. -/
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share is its tiles' shares, handed out and joined again. -/
theorem vecSplit : (K (F := F)).VecSplit' (P pk f0) 0 := by
  intro d c
  have hc : c.val < 2 := c.isLt
  show iprop(coreWordPts d c.val (pk d) ∗ coreOutPts d c.val (f0 d)) ⊢ |={Set.univ}=> iprop(
      (bigSep Finset.univ fun i : Fin ((K (F := F)).nSub 0) =>
        iprop(wordPts d (2 * (Fin.cast nSub_zero i).val + c.val) (pk d) ∗ outPts d (2 * (Fin.cast nSub_zero i).val + c.val) (f0 d)))
      ∗ ((bigSep Finset.univ fun i : Fin ((K (F := F)).nSub 0) =>
          iprop(wordPts d (2 * (Fin.cast nSub_zero i).val + c.val) (pk d) ∗ outPts d (2 * (Fin.cast nSub_zero i).val + c.val) (hists (F := F) (pk d))))
        -∗ iprop(coreWordPts d c.val (pk d) ∗ coreOutPts d c.val (hists (F := F) (pk d)))))
  rw [over_tasks (F := F) (fun i => iprop(wordPts d (2 * i.val + c.val) (pk d) ∗ outPts d (2 * i.val + c.val) (f0 d))),
    over_tasks (F := F) (fun i => iprop(wordPts d (2 * i.val + c.val) (pk d) ∗ outPts d (2 * i.val + c.val) (hists (F := F) (pk d)))), bigSep_sep', bigSep_sep', ← coreWordPts_split d c.val hc, ← coreOutPts_split d c.val hc, ← coreOutPts_split d c.val hc]
  iintro H
  imodintro
  isplitl [H]; · iexact H
  iintro H
  iexact H

/-! ## The tiles' obligation -/

/-- The mesh coordinates of SparseCore `c`'s tile `s`. -/
def meshAt (c : Fin (grid1.bound 0)) (s : Fin (grid1.bound 1)) : grid1.Coords :=
  fun | 0 => c | 1 => s | ⟨_ + 2, h⟩ => absurd h (Nat.not_lt.2 (Nat.le_add_left _ _))

/-- A tile's entry in the table of bodies is the histogram kernel at the tile's place. -/
theorem row_of_tile (c : Fin τ.nSC) (s : Fin τ.nSub) :
    defs₀ (F := F) (.scVector c s) 1 ()
      = SparseCore.onTile hcore1 hsub1 (fun c s => cc1_sc_hist (meshAt c s) wordsV (Memref.isWhole_whole _) outV (Memref.isWhole_whole _)
          bufA (Memref.isWhole_whole _) bufB (Memref.isWhole_whole _) bufH (Memref.isWhole_whole _) cc1_scratch3 cc1_scratch4 cc1_scoped0) ⟨⟩ c s := rfl

/-- Every tile runs its task from its share of the two arrays. -/
theorem tileObl : (K (F := F)).TileObl (D (F := F)) 𝒱 (P pk f0) v₀ 0 := by
  intro d c i O W hO _ _
  simp only [show (P pk f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [row_of_tile]
  simp only [SparseCore.onTile, hci, and_self, ↓reduceDIte]
  exact tile_body d (meshAt ⟨_, hci.1⟩ ⟨_, hci.2⟩) (pk d) (f0 d) O W hO

/-- What the call is started from, and what it leaves: the two arrays whole. -/
theorem st_eq (d : Dev nD) : (bigSep Finset.univ fun c : Fin ((K (F := F)).nCore 0) => (P pk f0).st 0 d c)
    = iprop((wLoc d ↦{fullShare} pk d) ∗ (oLoc d ↦{fullShare} f0 d)) := by
  rw [allWordPts_split, allOutPts_split, ← bigSep_sep']
  exact over_cores (F := F) fun c => iprop(coreWordPts d c.val (pk d) ∗ coreOutPts d c.val (f0 d))
/-- What the SparseCores hand back, spelt out. -/
theorem dn_eq (d : Dev nD) : (bigSep Finset.univ fun c : Fin ((K (F := F)).nCore 0) => (P pk f0).dn 0 d c)
    = iprop((wLoc d ↦{fullShare} pk d) ∗ (oLoc d ↦{fullShare} hists (F := F) (pk d))) := by
  rw [allWordPts_split, allOutPts_split, ← bigSep_sep']
  exact over_cores (F := F) fun c => iprop(coreWordPts d c.val (pk d) ∗ coreOutPts d c.val (hists (F := F) (pk d)))

end Cert.Hist

end
-- ==== Proof.Bodies.lean ====
/-
  The two TensorCore kernels' bodies: from the staging buffers held at named contents, each runs to its return with its
  result's staging buffer at a named function of them.
-/
module

public import proofs.«01_k».proof.Proof.Base
public import Idealize.ShloMosaic.Lib.Pipeline.ValueKit
public import Idealize.ShloMosaic.Lib.WritesUnit

@[expose] public section

noncomputable section

namespace Cert.Hist

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode

variable {F : FTy → Type} [FloatOps F] [Named F]

local notation "𝕄" => MT nD τ sig (HIx 1) (Elt F) ℕ UU ℕ

/-- A load of a whole buffer from its origin reads its contents. -/
theorem ld_origin {S : Shape} {e : EltTy} (X : S.Idx → Elt F e) {off : Fin S.rank → ℕ} (inb : ∀ a, off a + S.size a ≤ S.size a)
    (h : ∀ a, off a = 0) : View.ld (Val := Elt F) (e' := e) X (Rect.unit (s := S) off S.size inb) = X := by
  funext x
  refine congrArg X (funext fun a => Fin.ext ?_)
  show off a + 1 * (x a).val = (x a).val
  rw [h, Nat.zero_add, Nat.one_mul]

/-- A store of a whole buffer at its origin leaves what it stored, whatever the buffer held. -/
theorem read_stored {S : Shape} {e : EltTy} {κ : Kind} {sp : Space} (M : Memref sig κ sp S e) (f : M.view.ty.Contents (Elt F))
    {off : Fin S.rank → ℕ} (inb : ∀ a, off a + S.size a ≤ S.size a) (h : ∀ a, off a = 0) (w : S.Idx → Elt F e) :
    M.view.read (Elt F) (M.view.writes (Elt F) f [⟨Rect.unit off S.size inb, w⟩]) = w := by
  funext y
  refine View.read_writes_cons_unit_of_mem M.view f inb w [] y y (off' := fun _ => 0) (funext h) (fun a => ?_)
  rw [Nat.zero_add]

/-- One block of the packing kernel: the 20 rows of a block of `phi`'s transpose, packed into one word a column. -/
def packBlock (X : S20x32768.Idx → F .f32) : S32768.Idx → BitVec 32 :=
  k0_pay1 (k0_pay3 (iota .tc S8x1 32 [0] iota_S8x1_d0_w32) (k0_pay2 (View.ld (Val := Elt F) (e' := .f32) X (Rect.unit (s := S20x32768) ![0, 0] S8x32768.size inb_S20x32768_S8x32768_0_0)))
      (View.ld (Val := Elt F) (e' := .f32) X (Rect.unit (s := S20x32768) ![8, 0] S8x32768.size inb_S20x32768_S8x32768_8_0)))
    (k0_pay4 (View.ld (Val := Elt F) (e' := .f32) X (Rect.unit (s := S20x32768) ![16, 0] S4x32768.size inb_S20x32768_S4x32768_16_0)))
    (iota .tc S4x1 32 [0] iota_S4x1_d0_w32)

/-- The packing kernel's body, from a block of the transpose at `X`. -/
theorem pack_body (c : Dev nD) (E : Set ℕ) (i : grid0.Coords) (M0 : Memref sig .tc .vmem S20x32768 .f32) (h0 : M0.IsWhole)
    (M1 : Memref sig .tc .vmem S32768 .i32) (h1 : M1.IsWhole) (X : S20x32768.Idx → F .f32) (Q : PUnit → sProp 𝕄) :
    iprop(owns (c : Thread nD τ) M0 fullShare X ∗ (∃ d, owns (c : Thread nD τ) M1 fullShare d)
        ∗ (iprop(owns (c : Thread nD τ) M0 fullShare X ∗ owns (c : Thread nD τ) M1 fullShare (packBlock X)) -∗ Q ⟨⟩))
      ⊢ wp frame (wpE (defs₀ (F := F)) Variants.none c none) E (cc0_body i M0 h0 M1 h1) Q := by
  unfold owns
  rw [cc0_body_eq_skeleton]
  unfold cc0_body_skel
  rw [k0_part1_eq_skeleton, k0_part2_eq_skeleton]
  unfold k0_part1_skel k0_part2_skel
  simp only [bind_assoc, pure_bind]
  iintro ⟨⟨%f0, %hf0, H0⟩, ⟨%d, %f1, -, H1⟩, Hk⟩
  sl_exec!
  sl_step
  iapply Hk
  isplitl [H0]
  · iexists f0; isplitr; · ipureintro; exact hf0
    iexact H0
  iexists _; isplitr; swap; · iexact H1
  ipureintro
  subst hf0
  exact read_stored M1 _ inb_S32768_S32768_0 (fun a => by fin_cases a; rfl) (packBlock (M0.view.read (Elt F) f0))

/-- The entropy kernel's result, from the counts, the marginalising table and the grouping table. -/
def entropyRow (C : S32x112x16.Idx → F .f32) (A : S112x240.Idx → F .f32) (G : S240x8.Idx → F .f32) : S1x8.Idx → F .f32 :=
  k2_pay1 C A G

/-- The entropy kernel's body, from the counts at `C` and the two tables at `A` and `G`. -/
theorem entropy_body (c : Dev nD) (E : Set ℕ) (M0 : Memref sig .tc .vmem S32x112x16 .f32) (h0 : M0.IsWhole)
    (M1 : Memref sig .tc .vmem S112x240 .f32) (h1 : M1.IsWhole) (M2 : Memref sig .tc .vmem S240x8 .f32) (h2 : M2.IsWhole)
    (M3 : Memref sig .tc .vmem S1x8 .f32) (h3 : M3.IsWhole)
    (C : S32x112x16.Idx → F .f32) (A : S112x240.Idx → F .f32) (G : S240x8.Idx → F .f32) (Q : PUnit → sProp 𝕄) :
    iprop(owns (c : Thread nD τ) M0 fullShare C ∗ owns (c : Thread nD τ) M1 fullShare A ∗ owns (c : Thread nD τ) M2 fullShare G
        ∗ (∃ d, owns (c : Thread nD τ) M3 fullShare d)
        ∗ (iprop(owns (c : Thread nD τ) M0 fullShare C ∗ owns (c : Thread nD τ) M1 fullShare A ∗ owns (c : Thread nD τ) M2 fullShare G
            ∗ owns (c : Thread nD τ) M3 fullShare (entropyRow C A G)) -∗ Q ⟨⟩))
      ⊢ wp frame (wpE (defs₀ (F := F)) Variants.none c none) E (cc2_body M0 h0 M1 h1 M2 h2 M3 h3) Q := by
  unfold owns
  rw [cc2_body_eq_skeleton]
  unfold cc2_body_skel
  simp only [bind_assoc, pure_bind]
  iintro ⟨⟨%f0, %hf0, H0⟩, ⟨%f1, %hf1, H1⟩, ⟨%f2, %hf2, H2⟩, ⟨%d, %f3, -, H3⟩, Hk⟩
  sl_exec!
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  iexists _; isplitr; swap; · iexact H3
  ipureintro
  subst hf0 hf1 hf2
  have e0 : View.ld (Val := Elt F) (e' := .f32) (M0.view.read (Elt F) f0) (Rect.unit (s := S32x112x16) ![0, 0, 0] S32x112x16.size inb_S32x112x16_S32x112x16_0_0_0) = M0.view.read (Elt F) f0 :=
    ld_origin _ _ (fun a => by fin_cases a <;> rfl)
  have e1 : View.ld (Val := Elt F) (e' := .f32) (M1.view.read (Elt F) f1) (Rect.unit (s := S112x240) ![0, 0] S112x240.size inb_S112x240_S112x240_0_0) = M1.view.read (Elt F) f1 :=
    ld_origin _ _ (fun a => by fin_cases a <;> rfl)
  have e2 : View.ld (Val := Elt F) (e' := .f32) (M2.view.read (Elt F) f2) (Rect.unit (s := S240x8) ![0, 0] S240x8.size inb_S240x8_S240x8_0_0) = M2.view.read (Elt F) f2 :=
    ld_origin _ _ (fun a => by fin_cases a <;> rfl)
  rw [← e0, ← e1, ← e2]
  exact read_stored M3 _ inb_S1x8_S1x8_0_0 (fun a => by fin_cases a <;> rfl) (entropyRow (F := F) _ _ _)

end Cert.Hist

end
-- ==== Proof.Regions.lean ====
/-
  The two TensorCore regions of the program, each entered once: the packing pipeline before the SparseCore call, the
  entropy kernel after it. What each leaves in its result array is named.
-/
module

public import proofs.«01_k».proof.Proof.Bodies

@[expose] public section

noncomputable section

namespace Cert.Hist

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F] [Named F] [∀ e, Nonempty (Elt F e)]

local notation "𝕄" => MT nD τ sig (HIx 1) (Elt F) ℕ UU ℕ

/-- The unscoped buffers' contents a region is entered at. -/
abbrev Vals (F : FTy → Type) : Type := (c : Dev nD) → (b : Ref sig .tc) → Buf (Elt F) ((c : Thread nD τ).loc b)

/-- The wait records the TensorCore may hold before SparseCore call `n`: those at or below that call's first level. -/
def recBound (n : ℕ) (c : Dev nD) : Set (SemLoc sig × HIx 1) :=
  {p | (K (F := F)).lev ((c : Thread nD τ), p.1) p.2 ≤ 8 * n}

/-- What the TensorCore owes before SparseCore call `n`: nothing at the index of a pipeline's own waits. -/
theorem Otc_none (c : Dev nD) (n : ℕ) (g : GSem nD τ sig) : (K (F := F)).Otc (N := 1) c n g none = 0 := by
  unfold SparseCore.Cfg.Otc
  simp only [Finset.univ_unique, Finset.sum_singleton]
  split
  · simp [Finset.sum_apply, tallyAt_apply]
  · rfl

/-! ## The packing pipeline -/

/-- Block `t` of `phi`'s transpose: its columns `32768·t …`. -/
def rowBlock (x : S20x1048576.Idx → F .f32) (t : ℕ) (ht : t < 32) : S20x32768.Idx → F .f32 := fun y =>
  x (ix2 (y 0) ⟨32768 * t + (y 1).val, by have := (y 1).isLt; change (y 1).val < 32768 at this; omega⟩)

/-- The words the packing pipeline leaves: word `j` is the packing of `phi`'s row `j`. -/
def packedOf (x : S20x1048576.Idx → F .f32) : S1048576.Idx → BitVec 32 := fun j =>
  packBlock (rowBlock x ((j 0).val / 32768) (by have := (j 0).isLt; change (j 0).val < 1048576 at this; omega))
    (ix1 ⟨(j 0).val % 32768, Nat.mod_lt _ (by decide)⟩)

/-- A word of block `t` is the packing of that block, at its place in it. -/
theorem packedOf_at (x : S20x1048576.Idx → F .f32) (t : ℕ) (ht : t < 32) (y : S32768.Idx) (j : S1048576.Idx)
    (h : (j 0).val = t * 32768 + (y 0).val) : packedOf x j = packBlock (rowBlock x t ht) y := by
  have hy : (y 0).val < 32768 := (y 0).isLt
  have h1 : (j 0).val / 32768 = t := by omega
  have h2 : ix1 ⟨(j 0).val % 32768, Nat.mod_lt _ (by decide)⟩ = y := by
    funext a; apply Fin.ext; fin_cases a; show (j 0).val % 32768 = (y 0).val; omega
  subst h1
  unfold packedOf
  rw [h2]

/-- The packing pipeline's proof data: its two arrays as the region finds them; after each block the fetched block
    unchanged and the packed words of it. -/
def dat0 (V : Vals F) (c : Dev nD) : Dat τ (Elt F) (HIx 1) ℕ UU ℕ cfg0 c where
  A w := V c (Pipeline.arrRef spec0 w)
  after w t := match w with
    | ⟨0, _⟩ => rowBlock (V c main_v0) t.val (N_0 ▸ t.isLt)
    | ⟨1, _⟩ => packBlock (rowBlock (V c main_v0) t.val (N_0 ▸ t.isLt))
  Φ _ := Pipeline.scopedRest (Ix := HIx 1) (Name := ℕ) (U := UU) (Lvl := ℕ) (Val := Elt F) spec0 c
  q _ := fullShare
  owed _ := (K (F := F)).Otc c 0
  recorded _ := recBound (F := F) 0 c

/-- The packing kernel reads block `t` of the columns at step `t`. -/
theorem idx0_0 : ∀ t : Fin grid0.N, win0_0.index t = ![0, t.val] := by decide +kernel
/-- It writes block `t` of the words at step `t`. -/
theorem idx0_1 : ∀ t : Fin grid0.N, win0_1.index t = ![t.val] := by decide +kernel

/-- When the body runs, the fetched window's buffer holds that block of the transpose. -/
theorem before0 (V : Vals F) (c : Dev nD) (t : Fin cfg0.N) (d) :
    (dat0 V c).before 0 t d = rowBlock (V c main_v0) t.val (N_0 ▸ t.isLt) := by
  rw [Dat.before_fetched _ _ _ (fetch0_0 t)]
  funext y
  show ((cfg0.win 0).blk t).view.read (Elt F) (V c main_v0) y = _
  unfold rowBlock
  blk_ext [idx0_0 t]

/-- The packing pipeline's body, at every block. -/
theorem body0 (V : Vals F) (c : Dev nD) : BodyObligation (dat0 V c) (defs₀ (F := F)) 𝒱₀ none Set.univ := fun t => by
  rw [bigSep_W0, bigSep_W0]
  rw [show (dat0 V c).Φ t.castSucc = (dat0 V c).Φ t.succ from rfl,
    show (dat0 V c).owesAt none t.castSucc = (dat0 V c).owesAt none t.succ from rfl]
  iintro ⟨HΦ, Howes, ⟨%d0, H0⟩, ⟨%d1, H1⟩⟩
  rw [before0]
  iapply (pack_body c Set.univ (grid0.coords t) _ _ _ _ (rowBlock (V c main_v0) t.val (N_0 ▸ t.isLt)) _)
  isplitl [H0]; · iexact H0
  isplitl [H1]; · iexists _; iexact H1
  iintro ⟨H0, H1⟩
  isplitl [HΦ]; · iexact HΦ
  isplitl [Howes]; · iexact Howes
  isplitl [H0]; · iexact H0
  iexact H1

/-- After the last block the packing pipeline's result array is the packing of the whole transpose. -/
theorem final0 (V : Vals F) (c : Dev nD) : (dat0 V c).arrAt 1 cfg0.N = packedOf (V c main_v0) := by
  refine (dat0 V c).arrAt_eq_of_covers 1 _ (by decide +kernel) fun t hf y => ?_
  blk_simp
  exact (packedOf_at _ t.val (N_0 ▸ t.isLt) y _ (by blk_simp [idx0_1 t])).symm

/-! ## The entropy kernel -/

/-- The entropy kernel's proof data: its four arrays as the region finds them; after its one point the three operands
    unchanged and the entropies. -/
def dat1 (V : Vals F) (c : Dev nD) : Dat τ (Elt F) (HIx 1) ℕ UU ℕ cfg2 c where
  A w := V c (Pipeline.arrRef spec2 w)
  after w _ := match w with
    | ⟨0, _⟩ => V c main_v3
    | ⟨1, _⟩ => V c main_cst
    | ⟨2, _⟩ => V c main_cst_0
    | ⟨3, _⟩ => entropyRow (V c main_v3) (V c main_cst) (V c main_cst_0)
  Φ _ := Pipeline.scopedRest (Ix := HIx 1) (Name := ℕ) (U := UU) (Lvl := ℕ) (Val := Elt F) spec2 c
  q _ := fullShare
  owed _ := (K (F := F)).Otc c 1
  recorded _ := recBound (F := F) 1 c

/-- The entropy kernel reads its arrays whole. -/
theorem idx2_0 : win2_0.index t2_0 = ![0, 0, 0] := by decide +kernel
theorem idx2_1 : win2_1.index t2_0 = ![0, 0] := by decide +kernel
theorem idx2_2 : win2_2.index t2_0 = ![0, 0] := by decide +kernel

/-- When the body runs, each operand's staging buffer holds the whole operand. -/
theorem before1_0 (V : Vals F) (c : Dev nD) (t : Fin cfg2.N) (d) : (dat1 V c).before 0 t d = V c main_v3 := by
  rw [Dat.before_fetched _ _ _ (fetch2_0 t)]
  funext y
  show ((cfg2.win 0).blk t).view.read (Elt F) (V c main_v3) y = _
  obtain rfl := fin_N2 t
  blk_ext [idx2_0]
/-- The first table is the program's constant. -/
theorem before1_1 (V : Vals F) (c : Dev nD) (t : Fin cfg2.N) (d) : (dat1 V c).before 1 t d = V c main_cst := by
  rw [Dat.before_fetched _ _ _ (fetch2_1 t)]
  funext y
  show ((cfg2.win 1).blk t).view.read (Elt F) (V c main_cst) y = _
  obtain rfl := fin_N2 t
  blk_ext [idx2_1]
/-- The second table is the program's constant. -/
theorem before1_2 (V : Vals F) (c : Dev nD) (t : Fin cfg2.N) (d) : (dat1 V c).before 2 t d = V c main_cst_0 := by
  rw [Dat.before_fetched _ _ _ (fetch2_2 t)]
  funext y
  show ((cfg2.win 2).blk t).view.read (Elt F) (V c main_cst_0) y = _
  obtain rfl := fin_N2 t
  blk_ext [idx2_2]

/-- The entropy kernel's body. -/
theorem body1 (V : Vals F) (c : Dev nD) : BodyObligation (dat1 V c) (defs₀ (F := F)) 𝒱₀ none Set.univ := fun t => by
  rw [bigSep_W2, bigSep_W2]
  rw [show (dat1 V c).Φ t.castSucc = (dat1 V c).Φ t.succ from rfl,
    show (dat1 V c).owesAt none t.castSucc = (dat1 V c).owesAt none t.succ from rfl]
  iintro ⟨HΦ, Howes, ⟨%d0, H0⟩, ⟨%d1, H1⟩, ⟨%d2, H2⟩, ⟨%d3, H3⟩⟩
  rw [before1_0, before1_1, before1_2]
  iapply (entropy_body c Set.univ _ (hstage2_0 0) _ (hstage2_1 0) _ (hstage2_2 0) _ (hstage2_3 0) (V c main_v3) (V c main_cst) (V c main_cst_0) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The entropy kernel's result array holds the entropies. -/
theorem final1 (V : Vals F) (c : Dev nD) :
    (dat1 V c).arrAt 3 cfg2.N = entropyRow (V c main_v3) (V c main_cst) (V c main_cst_0) := by
  refine (dat1 V c).arrAt_eq_of_after_last 3 t2_0 (by decide +kernel) _ fun j => ?_
  blk_simp
  rfl

/-! ## The two regions as segments of @main -/

variable (adm : (p : Fin 2) → (pcfgs (F := F) p).Adm) (V0 V1 : Vals F)

/-- The proof data of both pipelines: each region is entered at its own contents. -/
def pdats : (p : Fin 2) → (c : Dev nD) → Dat τ (Elt F) (HIx 1) ℕ UU ℕ (Pipeline.pin (pcfgs (F := F)) adm p) c
  | ⟨0, _⟩ => fun c => dat0 V0 c
  | ⟨1, _⟩ => fun c => dat1 V1 c

/-- What the TensorCore owes and has recorded before SparseCore call `n`. -/
abbrev owing (n : ℕ) (c : Dev nD) : sProp 𝕄 :=
  iprop(∃ W, ⌜(K (F := F)).WBelow (T c) W (8 * n)⌝ ∗ owes (T c) ((K (F := F)).Otc c n) W)

/-- A pipeline's own waits are recorded at the lowest level. -/
theorem recorded_back {cfg : Cfg sig Λ₀} (n : ℕ) (c : Dev nD) (W : Waits sig (HIx 1))
    (h : (↑W : Set (SemLoc sig × HIx 1)) ⊆ recBound (F := F) n c ∪ cfg.waitPairs none) : (K (F := F)).WBelow (T c) W (8 * n) := by
  intro p hp
  rcases h hp with h | ⟨w, s, rfl⟩
  · exact h
  · exact Nat.zero_le _

set_option backward.isDefEq.respectTransparency.types false in
/-- The packing region: from the unscoped buffers at `V0` to the same with the words in place of what `main_v1` held. -/
def reg0 (Vp : Vals F) (hout : ∀ c, Vp c main_v1 = packedOf (V0 c main_v0)) (hne : ∀ c (b : Ref sig .tc), b ≠ main_v1 → Vp c b = V0 c b) :
    Pipeline.RegionSeg (pcfgs (F := F)) adm (pdats adm V0 V1) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 V0 c).loose
  hwaits c := Pipeline.cellsWaits_intro _ _ _ 0 c fun w s t => (K (F := F)).mayWait_none _ fun g => Otc_none c 0 g
  pre c := iprop(unscopedBufs c (V0 c) ∗ owing (F := F) 0 c)
  post c := iprop(unscopedBufs c (Vp c) ∗ owing (F := F) 0 c)
  X _ := BI.emp
  Y _ := BI.emp
  Z c := Pipeline.unscopedRest (Ix := HIx 1) (Name := ℕ) (U := UU) (Lvl := ℕ) spec0 c (V0 c)
  hentry c := by
    rw [Pipeline.ownSems0_none]
    have hsplit := Pipeline.arrays_of_unscopedBufs (p := 0) (pcfgs (F := F)) adm (pdats adm V0 V1) launch0.win launch0.arr_whole c
      ((pdats adm V0 V1 0 c).share_full fun _ => rfl) (V0 c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats adm V0 V1 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats adm V0 V1 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats adm V0 V1) ((pdats adm V0 V1 0 c).share_full fun _ => rfl) (V0 c) (Vp c) ((pdats adm V0 V1 0 c).arrAt · cfg0.N)
      (fun w => by
        fin_cases w
        · exact ((pdats adm V0 V1 0 c).arrAt_in 0 rfl _).trans (hne c main_v0 (by decide)).symm
        · exact (final0 V0 c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; · ipureintro; exact recorded_back 0 c W hW
    iexact HO

set_option backward.isDefEq.respectTransparency.types false in
/-- The entropy region: from the unscoped buffers at `V1` to the same with the entropies in place of what `main_v4` held. -/
def reg1 (Vp : Vals F) (hout : ∀ c, Vp c main_v4 = entropyRow (V1 c main_v3) (V1 c main_cst) (V1 c main_cst_0))
    (hne : ∀ c (b : Ref sig .tc), b ≠ main_v4 → Vp c b = V1 c b) :
    Pipeline.RegionSeg (pcfgs (F := F)) adm (pdats adm V0 V1) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body1 V1 c).loose
  hwaits c := Pipeline.cellsWaits_intro _ _ _ 1 c fun w s t => (K (F := F)).mayWait_none _ fun g => Otc_none c 1 g
  pre c := iprop(unscopedBufs c (V1 c) ∗ owing (F := F) 1 c)
  post c := iprop(unscopedBufs c (Vp c) ∗ owing (F := F) 1 c)
  X _ := BI.emp
  Y _ := BI.emp
  Z c := Pipeline.unscopedRest (Ix := HIx 1) (Name := ℕ) (U := UU) (Lvl := ℕ) spec2 c (V1 c)
  hentry c := by
    rw [Pipeline.ownSems0_none]
    have hsplit := Pipeline.arrays_of_unscopedBufs (p := 1) (pcfgs (F := F)) adm (pdats adm V0 V1) launch2.win launch2.arr_whole c
      ((pdats adm V0 V1 1 c).share_full fun _ => rfl) (V1 c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats adm V0 V1 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats adm V0 V1 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats adm V0 V1) ((pdats adm V0 V1 1 c).share_full fun _ => rfl) (V1 c) (Vp c) ((pdats adm V0 V1 1 c).arrAt · cfg2.N)
      (fun w => by
        fin_cases w
        · exact ((pdats adm V0 V1 1 c).arrAt_in 0 rfl _).trans (hne c main_v3 (by decide)).symm
        · exact ((pdats adm V0 V1 1 c).arrAt_in 1 rfl _).trans (hne c main_cst (by decide)).symm
        · exact ((pdats adm V0 V1 1 c).arrAt_in 2 rfl _).trans (hne c main_cst_0 (by decide)).symm
        · exact (final1 V1 c).trans (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; · ipureintro; exact recorded_back 1 c W hW
    iexact HO

end Cert.Hist

end
-- ==== Proof.Main.lean ====
/-
  @main on a device's TensorCore, run whole: the two host tables and the transpose, the packing pipeline, the histogram
  call, the entropy kernel and the slices of its row; and the program's run from any memory.
-/
module

public import proofs.«01_k».proof.Proof.Launch
public import proofs.«01_k».proof.Proof.Regions

@[expose] public section

noncomputable section

namespace Cert.Hist

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F] [Named F] [∀ e, Nonempty (Elt F e)]

local notation "𝕄" => MT nD τ sig (HIx 1) (Elt F) ℕ UU ℕ

/-! ## The unscoped buffers, held under one valuation -/

/-- @main's arrays: the TensorCore's buffers no kernel scopes. -/
def arrays : Finset (DevRef τ sig) := (StableHlo.tcRefs τ sig).filter fun b => ¬ b.isScoped

/-- The launch's unscoped buffers are @main's arrays held at one valuation. -/
theorem unscopedBufs_held (c : Dev nD) (W : Valuation τ sig (Elt F)) :
    (unscopedBufs c (fun b => W (b : DevRef τ sig)) : sProp 𝕄) = StableHlo.held (c : Thread nD τ) arrays W := by
  unfold unscopedBufs StableHlo.held arrays StableHlo.tcRefs
  rw [Finset.filter_map, bigSep_map]
  rfl

/-! ## What @main's arrays hold, step by step -/

/-- The two host tables. -/
def tableM : S112x240.Idx → F .f32 := fun i => FloatOps.ofBits .f32 (lit0 (S112x240.rowMajor i))
/-- The second table: the weights of the key columns in the averages. -/
def tableG : S240x8.Idx → F .f32 := fun i => FloatOps.ofBits .f32 (lit1 (S240x8.rowMajor i))

abbrev opM : HloOp τ sig (Elt F) := StableHlo.nullary main_cst (fun i => FloatOps.ofBits .f32 (lit0 (S112x240.rowMajor i)))
abbrev opG : HloOp τ sig (Elt F) := StableHlo.nullary main_cst_0 (fun i => FloatOps.ofBits .f32 (lit1 (S240x8.rowMajor i)))
abbrev opT : HloOp τ sig (Elt F) := StableHlo.unary main_arg0 main_v0
  ((transpose S20x1048576 [1, 0] · transposes_S1048576x20_S20x1048576_1_0) : (⟨S1048576x20, .f32⟩ : BufTy).Contents (Elt F) → (⟨S20x1048576, .f32⟩ : BufTy).Contents (Elt F))
abbrev opC : HloOp τ sig (Elt F) := StableHlo.reshape main_v2 main_v3 (rfl : (.f32 : EltTy) = .f32) shapeCasts_S57344_S32x112x16
abbrev opL : HloOp τ sig (Elt F) := StableHlo.unary main_v4 main_v5
  ((extractStridedSlice S1x5 ![0, 0] · slices_S1x8_S1x5_0_0) : (⟨S1x8, .f32⟩ : BufTy).Contents (Elt F) → (⟨S1x5, .f32⟩ : BufTy).Contents (Elt F))
abbrev opL' : HloOp τ sig (Elt F) := StableHlo.reshape main_v5 main_v6 (rfl : (.f32 : EltTy) = .f32) shapeCasts_S1x5_S5
abbrev opH : HloOp τ sig (Elt F) := StableHlo.unary main_v4 main_v7
  ((extractStridedSlice S1x1 ![0, 5] · slices_S1x8_S1x1_0_5) : (⟨S1x8, .f32⟩ : BufTy).Contents (Elt F) → (⟨S1x1, .f32⟩ : BufTy).Contents (Elt F))
abbrev opH' : HloOp τ sig (Elt F) := StableHlo.reshape main_v7 main_v8 (rfl : (.f32 : EltTy) = .f32) shapeCasts_S1x1_S_

section Values

variable (m : (ℓ : Loc nD τ sig) → Buf (Elt F) ℓ) (d : Dev nD)

/-- At the launch; with the tables and the transpose; with the packed words; with the histograms; with the histograms
    in the entropy kernel's shape; with the entropies; at the end. -/
def atLaunch : Valuation τ sig (Elt F) := fun b => m (d, b)
def atPack : Valuation τ sig (Elt F) := opT.result (opG.result (opM.result (atLaunch m d)))

/-- The packed words: those of `phi`'s transpose. -/
def words : Packed := packedOf (F := F) (atPack m d (main_v0 : DevRef τ sig))

def atCall : Valuation τ sig (Elt F) := Function.update (atPack m d) (main_v1 : DevRef τ sig) (words m d)
def atCounts : Valuation τ sig (Elt F) := Function.update (atCall m d) (main_v2 : DevRef τ sig) (hists (F := F) (words m d))
def atEntropy : Valuation τ sig (Elt F) := opC.result (atCounts m d)
def atSlice : Valuation τ sig (Elt F) := Function.update (atEntropy m d) (main_v4 : DevRef τ sig)
  (entropyRow (atEntropy m d (main_v3 : DevRef τ sig)) (atEntropy m d (main_cst : DevRef τ sig)) (atEntropy m d (main_cst_0 : DevRef τ sig)))
def atEnd : Valuation τ sig (Elt F) := opH'.result (opH.result (opL'.result (opL.result (atSlice m d))))

end Values

/-- Different arrays are different buffers. -/
theorem devRef_ne {a b : Ref sig .tc} (h : a ≠ b) : (a : DevRef τ sig) ≠ (b : DevRef τ sig) := StableHlo.devRef_ne_of_ne h

/-- After the SparseCore call its result holds the workers' histograms. -/
theorem counts_out (m : (ℓ : Loc nD τ sig) → Buf (Elt F) ℓ) (d : Dev nD) :
    atCounts m d (main_v2 : DevRef τ sig) = hists (F := F) (words m d) := Function.update_self ..
/-- After the SparseCore call every other array is as before. -/
theorem counts_ne (m : (ℓ : Loc nD τ sig) → Buf (Elt F) ℓ) (d : Dev nD) (b : DevRef τ sig) (h : b ≠ (main_v2 : DevRef τ sig)) :
    atCounts m d b = atCall m d b := Function.update_of_ne h _ _
/-- After the packing kernel its result holds the packed words. -/
theorem call_out (m : (ℓ : Loc nD τ sig) → Buf (Elt F) ℓ) (d : Dev nD) :
    atCall m d (main_v1 : DevRef τ sig) = words m d := Function.update_self ..

/-! ## The launch element -/

/-- The side conditions of the two TensorCore kernels. -/
def adm (p : Fin 2) : (pcfgs (F := F) p).Adm := (cfgs p).toPCfg_adm

/-- The cells of the two TensorCore kernels are distinct. -/
theorem phinj : Function.Injective (Pipeline.cellOf (nD := nD) (τ := τ) (Pipeline.pin (pcfgs (F := F)) adm)) := cellOf_inj

/-- What the launch hands each TensorCore for its two pipelines. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- The ghost state at launch. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- Its two parts, for the handshakes and for the pipelines. -/
theorem ownU_parts (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- A product of nothings is nothing. -/
theorem bigSep_nothing {I : Type} (s : Finset I) : (bigSep s fun _ => iprop(emp)) = (iprop(emp) : sProp 𝕄) := bigSep_emp_const s

/-- The launch state pays for the handshakes and the pipelines. -/
theorem hu₀ (pk : Dev nD → Packed) (f0 : Dev nD → S57344.Idx → F .f32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P pk f0).x q thr) := by
  unfold u₀ G
  rw [show (bigSep Finset.univ fun thr : Thread nD τ => bigSep Finset.univ fun q : Fin 1 => (P pk f0).x q thr) = bigSep Finset.univ fun _ => iprop(emp) from
    bigSep_congr fun _ _ => bigSep_univ_of_subsingleton (0 : Fin 1), bigSep_nothing, bigSep_sep']
  iintro Hu
  ihave H := (ownU_parts _ _) $$ Hu
  icases H with ⟨HH, HP⟩
  imod (Pipeline.fund_ghost (Pipeline.pin (pcfgs (F := F)) adm) EP phinj) $$ HP with HP
  imodintro
  isplitl [HH]; · iexact HH
  isplitl [HP]; · iexact HP
  iempintro

/-! ## @main -/

section Main

variable (m : (ℓ : Loc nD τ sig) → Buf (Elt F) ℓ) (ρ : Dev nD → PrngReg)

/-- What each region is entered at. -/
abbrev V0 : Vals F := fun c b => atPack m c (b : DevRef τ sig)
abbrev V1 : Vals F := fun c b => atEntropy m c (b : DevRef τ sig)
/-- What the histogram call finds in its result array. -/
abbrev f0 : Dev nD → S57344.Idx → F .f32 := fun d => atCall m d (main_v2 : DevRef τ sig)

def regPack := reg0 (F := F) adm (V0 m) (V1 m) (fun c b => atCall m c (b : DevRef τ sig)) (fun c => Function.update_self ..)
  (fun c b h => Function.update_of_ne (devRef_ne h) _ _)
def regEntropy := reg1 (F := F) adm (V0 m) (V1 m) (fun c b => atSlice m c (b : DevRef τ sig)) (fun c => Function.update_self ..)
  (fun c b h => Function.update_of_ne (devRef_ne h) _ _)

/-- An array that is not scoped is one of the program's arrays. -/
theorem mem_arrays (b : Ref sig .tc) (h : b.isScoped = false) : (b : DevRef τ sig) ∈ arrays :=
  Finset.mem_filter.mpr ⟨StableHlo.devRef_mem_tcRefs b, fun e => by
    have e' : b.isScoped = true := e
    exact Bool.noConfusion (h.symm.trans e')⟩
/-- One of the program's arrays is a subset of them. -/
theorem sub_one (y : Ref sig .tc) (hy : y.isScoped = false) : ({(y : DevRef τ sig)} : Finset (DevRef τ sig)) ⊆ arrays :=
  Finset.singleton_subset_iff.mpr (mem_arrays y hy)
/-- Two of the program's arrays are a subset of them. -/
theorem sub_two (x y : Ref sig .tc) (hx : x.isScoped = false) (hy : y.isScoped = false) :
    ({(x : DevRef τ sig), (y : DevRef τ sig)} : Finset (DevRef τ sig)) ⊆ arrays :=
  Finset.insert_subset (mem_arrays x hx) (sub_one y hy)

/-- What a device's TensorCore still holds at the end: `phi` and the two results. -/
def kept : Finset (DevRef τ sig) := {(main_arg0 : DevRef τ sig), (main_v6 : DevRef τ sig), (main_v8 : DevRef τ sig)}
/-- What the TensorCore holds at the end: the argument and the two results, with their final contents. -/
def FIN (d : Dev nD) : sProp 𝕄 := StableHlo.held (d : Thread nD τ) kept (atEnd m d)

/-- The two arrays the histogram call takes. -/
def callArrays : Finset (DevRef τ sig) := {(main_v1 : DevRef τ sig), (main_v2 : DevRef τ sig)}

/-- What the SparseCore call takes: the words and the place of the counts. -/
theorem held_call (d : Dev nD) (W : Valuation τ sig (Elt F)) :
    (StableHlo.held (d : Thread nD τ) callArrays W : sProp 𝕄)
      = iprop((wLoc d ↦{fullShare} W (main_v1 : DevRef τ sig)) ∗ oLoc d ↦{fullShare} W (main_v2 : DevRef τ sig)) := by
  unfold StableHlo.held callArrays
  rw [SparseCore.bigSep_insert' (by decide), bigSep_singleton]

/-- The call's arrays are among the program's. -/
theorem sub_call : callArrays ⊆ arrays := sub_two main_v1 main_v2 rfl rfl
/-- The kept arrays are among the program's. -/
theorem sub_kept : kept ⊆ arrays := Finset.insert_subset (mem_arrays main_arg0 rfl) (sub_two main_v6 main_v8 rfl rfl)

/-- What the call hands back, as the two arrays at the histograms' valuation. -/
theorem call_back (d : Dev nD) :
    iprop((wLoc d ↦{fullShare} words m d) ∗ oLoc d ↦{fullShare} hists (F := F) (words m d))
      = (StableHlo.held (d : Thread nD τ) callArrays (atCounts m d) : sProp 𝕄) := by
  rw [held_call, counts_out, counts_ne _ _ _ (devRef_ne (by decide)), call_out]
/-- The call touches no other array. -/
theorem held_rest (d : Dev nD) :
    (StableHlo.held (d : Thread nD τ) (arrays \ callArrays) (atCall m d) : sProp 𝕄)
      = StableHlo.held (d : Thread nD τ) (arrays \ callArrays) (atCounts m d) := by
  unfold StableHlo.held
  refine bigSep_congr fun b hb => ?_
  rw [counts_ne m d b fun e => (Finset.mem_sdiff.mp hb).2 (e ▸ Finset.mem_insert_of_mem (Finset.mem_singleton_self _))]

/-- The pipelines' ghost state, each pipeline's its own. -/
theorem G_eq (d : Dev nD) : G (F := F) d ⊢ iprop(
    (Pipeline.cellsGhost (Pipeline.pin (pcfgs (F := F)) adm) EP 0 d ∗ Pipeline.toksInit (Pipeline.pin (pcfgs (F := F)) adm) EP 0 d)
    ∗ Pipeline.cellsGhost (Pipeline.pin (pcfgs (F := F)) adm) EP 1 d ∗ Pipeline.toksInit (Pipeline.pin (pcfgs (F := F)) adm) EP 1 d) := by
  unfold G
  rw [show (Finset.univ : Finset (Fin 2)) = {0, 1} from rfl, SparseCore.bigSep_insert' (by decide), bigSep_singleton,
    SparseCore.bigSep_insert' (by decide), bigSep_singleton]
  iintro ⟨⟨H0, H1⟩, T0, T1⟩
  isplitl [H0 T0]
  · isplitl [H0] <;> iassumption
  isplitl [H1] <;> iassumption

/-- The TensorCore program runs from the launch contents to the final ones. -/
theorem hmain (κ : GSem nD τ sig → ℕ) (d : Dev nD) :
    iprop((K (F := F)).ctx EH (P (words m) (f0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [show (unscopedBufs d (fun b => m ((SparseCore.T d).loc b)) : sProp 𝕄) = StableHlo.held (d : Thread nD τ) arrays (atLaunch m d)
    from unscopedBufs_held d (atLaunch m d)]
  simp only [main, wp_bind, wp_pure]
  iintro ⟨#Hctx, Hst, ⟨Hb, Hub, Hts, -⟩, HG⟩
  ihave HG := (G_eq d) $$ HG
  icases HG with ⟨⟨Hc0, Ht0⟩, Hc1, Ht1⟩
  ihave Hlev := (SparseCore.Cfg.ctx_levAts κ) $$ Hctx
  -- the tables and the transpose
  iapply (StableHlo.wp_hlo_within 𝒱 (SparseCore.T d) none Set.univ (op := opM) (S := arrays) (sub_one main_cst rfl) (V := atLaunch m d)) $$ [Hb Hub]
  · isplitl [Hb] <;> iassumption
  iintro ⟨Hb, Hub⟩
  rw [wp_ret]; imodintro
  iapply (StableHlo.wp_hlo_within 𝒱 (SparseCore.T d) none Set.univ (op := opG) (S := arrays) (sub_one main_cst_0 rfl)) $$ [Hb Hub]
  · isplitl [Hb] <;> iassumption
  iintro ⟨Hb, Hub⟩
  rw [wp_ret]; imodintro
  iapply (StableHlo.wp_hlo_within 𝒱 (SparseCore.T d) none Set.univ (op := opT) (S := arrays) (sub_two main_arg0 main_v0 rfl rfl)) $$ [Hb Hub]
  · isplitl [Hb] <;> iassumption
  iintro ⟨Hb, Hub⟩
  rw [wp_ret]; imodintro
  -- the packing pipeline
  unfold SparseCore.Cfg.tcSt
  icases Hst with ⟨HO, Hst⟩
  iapply ((K (F := F)).wp_liftProg (D (F := F)) 𝒱 (SparseCore.T d) Set.univ none (Prog.lift (.customCall (Pipeline.entry 0) ())) _)
  iapply (Pipeline.RegionSeg.wp (pcfgs (F := F)) adm (pdats adm (V0 m) (V1 m)) none phinj EP defs₀ 𝒱₀ (K (F := F)).L (K (F := F)).lev
    (regPack m) d none (fun _ h => nomatch h) _ _)
  isplitr [Hb Hub HO Hc0 Ht0]
  rotate_left
  · isplitl [Hb]; · iexact Hb
    isplitl [Hub HO]
    · iapply (Entails.of_eq (show iprop((unscopedBufs d (fun b => atPack m d (b : DevRef τ sig)) : sProp 𝕄) ∗ owing (F := F) 0 d) = (regPack m).pre d from rfl))
      rw [unscopedBufs_held d (atPack m d)]
      isplitl [Hub]
      · iexact Hub
      iexact HO
    isplitr
    · iapply (SparseCore.Cfg.ctx_levAts κ); iexact Hctx
    isplitl [Hc0] <;> iassumption
  iintro ⟨Hb, Hpost⟩
  ihave Hpost := (Entails.of_eq (show ((regPack m).post d : sProp 𝕄) = iprop(StableHlo.held (d : Thread nD τ) arrays (atCall m d) ∗ owing (F := F) 0 d) from
    congrArg (fun X : sProp 𝕄 => iprop(X ∗ owing (F := F) 0 d)) (unscopedBufs_held d (atCall m d)))) $$ Hpost
  icases Hpost with ⟨Hub, HO⟩
  rw [wp_ret]; imodintro
  -- the histogram call
  ihave Hub := (Entails.of_eq (StableHlo.held_sub_split (d : Thread nD τ) sub_call (atCall m d))) $$ Hub
  icases Hub with ⟨Hcall, Hrest⟩
  ihave Hcall := (Entails.of_eq (held_call d (atCall m d))) $$ Hcall
  ihave Hst := (Entails.of_eq (show iprop((owing (F := F) 0 d) ∗ _) = (K (F := F)).tcSt EH d 0 from rfl)) $$ [HO Hst]
  · isplitl [HO] <;> iassumption
  iapply ((K (F := F)).wp_run (D (F := F)) 𝒱 (EH := EH) (P := P (words m) (f0 m)) κ d 0) $$ [Hst Hcall Hb Hrest Hts Hc1 Ht1]
  isplitr; · iexact Hctx
  isplitl [Hst]; · iexact Hst
  isplitl [Hcall]
  · rw [st_eq, call_out]
    iexact Hcall
  iintro ⟨Hst, Hdn⟩
  ihave Hdn := (Entails.of_eq (dn_eq (words m) (f0 m) d)) $$ Hdn
  ihave Hcall := (Entails.of_eq (call_back m d)) $$ Hdn
  ihave Hrest := (Entails.of_eq (held_rest m d)) $$ Hrest
  ihave Hub := (Entails.of_eq (StableHlo.held_sub_split (d : Thread nD τ) sub_call (atCounts m d)).symm) $$ [Hcall Hrest]
  · isplitl [Hcall] <;> iassumption
  iapply (StableHlo.wp_hlo_within 𝒱 (SparseCore.T d) none Set.univ (op := opC) (S := arrays) (sub_two main_v2 main_v3 rfl rfl) (V := atCounts m d)) $$ [Hb Hub]
  · isplitl [Hb] <;> iassumption
  iintro ⟨Hb, Hub⟩
  rw [wp_ret]; imodintro
  -- the entropy kernel
  unfold SparseCore.Cfg.tcSt
  icases Hst with ⟨HO, Hst⟩
  iapply ((K (F := F)).wp_liftProg (D (F := F)) 𝒱 (SparseCore.T d) Set.univ none (Prog.lift (.customCall (Pipeline.entry 1) ())) _)
  iapply (Pipeline.RegionSeg.wp (pcfgs (F := F)) adm (pdats adm (V0 m) (V1 m)) none phinj EP defs₀ 𝒱₀ (K (F := F)).L (K (F := F)).lev
    (regEntropy m) d none (fun _ h => nomatch h) _ _)
  isplitr [Hb Hub HO Hc1 Ht1]
  rotate_left
  · isplitl [Hb]; · iexact Hb
    isplitl [Hub HO]
    · iapply (Entails.of_eq (show iprop((unscopedBufs d (fun b => atEntropy m d (b : DevRef τ sig)) : sProp 𝕄) ∗ owing (F := F) 1 d) = (regEntropy m).pre d from rfl))
      rw [unscopedBufs_held d (atEntropy m d)]
      isplitl [Hub]
      · iexact Hub
      iexact HO
    isplitr
    · iapply (SparseCore.Cfg.ctx_levAts κ); iexact Hctx
    isplitl [Hc1] <;> iassumption
  iintro ⟨Hb, Hpost⟩
  ihave Hpost := (Entails.of_eq (show ((regEntropy m).post d : sProp 𝕄) = iprop(StableHlo.held (d : Thread nD τ) arrays (atSlice m d) ∗ owing (F := F) 1 d) from
    congrArg (fun X : sProp 𝕄 => iprop(X ∗ owing (F := F) 1 d)) (unscopedBufs_held d (atSlice m d)))) $$ Hpost
  icases Hpost with ⟨Hub, HO⟩
  rw [wp_ret]; imodintro
  iapply (StableHlo.wp_hlo_within 𝒱 (SparseCore.T d) none Set.univ (op := opL) (S := arrays) (sub_two main_v4 main_v5 rfl rfl) (V := atSlice m d)) $$ [Hb Hub]
  · isplitl [Hb] <;> iassumption
  iintro ⟨Hb, Hub⟩
  rw [wp_ret]; imodintro
  iapply (StableHlo.wp_hlo_within 𝒱 (SparseCore.T d) none Set.univ (op := opL') (S := arrays) (sub_two main_v5 main_v6 rfl rfl)) $$ [Hb Hub]
  · isplitl [Hb] <;> iassumption
  iintro ⟨Hb, Hub⟩
  rw [wp_ret]; imodintro
  iapply (StableHlo.wp_hlo_within 𝒱 (SparseCore.T d) none Set.univ (op := opH) (S := arrays) (sub_two main_v4 main_v7 rfl rfl)) $$ [Hb Hub]
  · isplitl [Hb] <;> iassumption
  iintro ⟨Hb, Hub⟩
  rw [wp_ret]; imodintro
  iapply (StableHlo.wp_hlo_within 𝒱 (SparseCore.T d) none Set.univ (op := opH') (S := arrays) (sub_two main_v7 main_v8 rfl rfl)) $$ [Hb Hub]
  · isplitl [Hb] <;> iassumption
  iintro ⟨Hb, Hub⟩
  rw [wp_ret]; imodintro
  ihave Hub := (Entails.of_eq (show (StableHlo.held (d : Thread nD τ) arrays (opH'.result (opH.result (opL'.result (opL.result (atSlice m d))))) : sProp 𝕄) = _ from
    StableHlo.held_sub_split (d : Thread nD τ) sub_kept (atEnd m d))) $$ Hub
  icases Hub with ⟨Hub, -⟩
  imodintro
  isplitl [HO Hst]
  · isplitl [HO]; · iexact HO
    iexact Hst
  isplitl [Hub]; · iexact Hub
  isplitl [Hb] <;> iassumption

/-- What a device's memory holds at the end: `phi` and the two results at the final valuation. -/
def fq (d : Dev nD) (s' : Phys nD τ sig (Elt F)) : Prop :=
  ∀ b ∈ kept, s'.mem.mem (d, b) = atEnd m d b

/-- What is held at the end says what memory holds. -/
theorem hfin (d : Dev nD) (s' : Phys nD τ sig (Elt F)) : iprop(FIN m d ∗ SI s') ⊢ (⌜fq m d s'⌝ : sProp 𝕄) := by
  unfold FIN StableHlo.held kept
  rw [SparseCore.bigSep_insert' (by decide), SparseCore.bigSep_insert' (by decide), bigSep_singleton]
  iintro ⟨⟨Hx, Hl, Hh⟩, HSI⟩
  ihave H := (persistent_entails_right (SI_pointsTo_agree (st := s') (ℓ := (d, (main_arg0 : DevRef τ sig))) (I := Finset.univ) (q := fullShare) (f := atEnd m d (main_arg0 : DevRef τ sig)))) $$ [HSI Hx]
  · isplitl [HSI] <;> iassumption
  icases H with ⟨%hx, HSI, -⟩
  ihave H := (persistent_entails_right (SI_pointsTo_agree (st := s') (ℓ := (d, (main_v6 : DevRef τ sig))) (I := Finset.univ) (q := fullShare) (f := atEnd m d (main_v6 : DevRef τ sig)))) $$ [HSI Hl]
  · isplitl [HSI] <;> iassumption
  icases H with ⟨%hl, HSI, -⟩
  ihave H := (SI_pointsTo_agree (st := s') (ℓ := (d, (main_v8 : DevRef τ sig))) (I := Finset.univ) (q := fullShare) (f := atEnd m d (main_v8 : DevRef τ sig))) $$ [HSI Hh]
  · isplitl [HSI] <;> iassumption
  icases H with %hh
  ipureintro
  intro b hb
  simp only [kept, Finset.mem_insert, Finset.mem_singleton] at hb
  rcases hb with rfl | rfl | rfl
  · exact funext fun i => hx i (Finset.mem_univ i)
  · exact funext fun i => hl i (Finset.mem_univ i)
  · exact funext fun i => hh i (Finset.mem_univ i)

/-- The program's end: on every device `phi` and the two results at the final valuation, every counter back at zero. -/
def QC : PUnit × MemSt nD τ sig (Elt F) → Prop := fun r =>
  (∀ (d : Dev nD), ∀ b ∈ kept, r.2.mem (d, b) = atEnd m d b) ∧ r.2.sem = fun _ => 0

/-- From any memory the program runs to its end and leaves the final valuation. -/
theorem run_main : θ_run (defs (F := F)) (threads (F := F)) ⟨m, fun _ => 0, ρ⟩ (QC m) :=
  SparseCore.Cfg.θ_run_sc_quiescent (K := K (F := F)) (D := D (F := F)) (𝒱 := 𝒱) (EH := EH) (P := P (words m) (f0 m)) (A := ∅) launchFacts v₀
    (fun q hq => match q with | 0 => nomatch hq)
    (fun q _ => match q with | 0 => tileObl (words m) (f0 m))
    (fun q _ => match q with | 0 => SparseCore.Cfg.VecSplit.of_plain (vecSplit (words m) (f0 m)))
    m ρ main G (FIN m) (u₀ (F := F)) (sep_elim_left.trans (hu₀ (words m) (f0 m))) (hmain m ρ) (fq m) (hfin m) (QC m) (fun _ h hz => ⟨h, hz⟩)

/-! ## The arrays the claims read, at the end -/

/-- The argument is unchanged at the end. -/
theorem end_arg0 (d : Dev nD) : atEnd m d (main_arg0 : DevRef τ sig) = m ((d : Thread nD τ).loc main_arg0) := by
  unfold atEnd
  simp (disch := decide) only [StableHlo.reshape_result_ne', StableHlo.unary_result_ne']
  unfold atSlice
  rw [Function.update_of_ne (devRef_ne (by decide))]
  unfold atEntropy
  simp (disch := decide) only [StableHlo.reshape_result_ne']
  unfold atCounts atCall
  rw [Function.update_of_ne (devRef_ne (by decide)), Function.update_of_ne (devRef_ne (by decide))]
  unfold atPack
  simp (disch := decide) only [StableHlo.unary_result_ne', StableHlo.nullary_result_ne']
  rfl

/-- The transpose of `phi`. -/
def phiT (d : Dev nD) : S20x1048576.Idx → F .f32 :=
  transpose S20x1048576 [1, 0] (m ((d : Thread nD τ).loc main_arg0)) transposes_S1048576x20_S20x1048576_1_0

/-- The packed words are those of the transposed argument. -/
theorem words_eq (d : Dev nD) : words m d = packedOf (phiT m d) := by
  unfold words atPack
  simp (disch := decide) only [StableHlo.unary_result', StableHlo.nullary_result_ne']
  rfl

/-- The row of entropies the program ends with. -/
def entropies (d : Dev nD) : S1x8.Idx → F .f32 :=
  entropyRow (shapeCast S32x112x16 (hists (F := F) (packedOf (phiT m d))) shapeCasts_S57344_S32x112x16) tableM tableG

/-- The entropy kernel's row, before it is cut. -/
theorem slice_out (d : Dev nD) : atSlice m d (main_v4 : DevRef τ sig) = entropies m d := by
  unfold atSlice
  rw [Function.update_self]
  unfold entropies
  congr 1

/-- The first result: the first five entropies. -/
theorem end_local (d : Dev nD) : atEnd m d (main_v6 : DevRef τ sig)
    = shapeCast S5 (extractStridedSlice S1x5 ![0, 0] (entropies m d) slices_S1x8_S1x5_0_0) shapeCasts_S1x5_S5 := by
  unfold atEnd
  simp (disch := decide) only [StableHlo.reshape_result_ne', StableHlo.unary_result_ne', StableHlo.reshape_result', StableHlo.unary_result']
  rw [slice_out]
  rfl

/-- The second result: the sixth. -/
theorem end_global (d : Dev nD) : atEnd m d (main_v8 : DevRef τ sig)
    = shapeCast S_ (extractStridedSlice S1x1 ![0, 5] (entropies m d) slices_S1x8_S1x1_0_5) shapeCasts_S1x1_S_ := by
  unfold atEnd
  simp (disch := decide) only [StableHlo.reshape_result_ne', StableHlo.unary_result_ne', StableHlo.reshape_result', StableHlo.unary_result']
  rw [slice_out]
  rfl

/-- The argument is kept. -/
theorem kept_arg0 : (main_arg0 : DevRef τ sig) ∈ kept := Finset.mem_insert_self _ _
/-- The first result is kept. -/
theorem kept_v6 : (main_v6 : DevRef τ sig) ∈ kept := Finset.mem_insert_of_mem (Finset.mem_insert_self _ _)
/-- The second result is kept. -/
theorem kept_v8 : (main_v8 : DevRef τ sig) ∈ kept := Finset.mem_insert_of_mem (Finset.mem_insert_of_mem (Finset.mem_singleton_self _))

end Main

end Cert.Hist

end
-- ==== Proof.Frames.lean ====
/-
  The three frames: the kernel as printed, the kernel at the ideal instance, and the reference. The two kernel programs
  are one program once the two named constants are read as the bits they were printed with.
-/
module

public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Hist

open Idealize.ShloMosaic Idealize.SL.Sem

/-- At the bit-exact instance a named constant is read as its bits. -/
instance namedBits : Named Bits := ⟨fun _ _ _ b => FloatOps.ofBits _ b⟩

/-- Under that reading the two programs' kernel bodies are the same. -/
theorem bodies_eq : Cert.Kernel.defs₀ (F := Bits) = Cert.KernelIdeal.defs₀ (F := Bits) := by
  funext p ℓ a
  cases p with
  | tc => fin_cases ℓ <;> rfl
  | scScalar c => fin_cases ℓ <;> rfl
  | scVector c s => fin_cases ℓ <;> rfl

/-- So are their body tables. -/
theorem tables_eq : Cert.Kernel.defs (F := Bits) = Cert.KernelIdeal.defs (F := Bits) :=
  congrArg (fun x => Cert.KernelIdeal.sc.defs (Pipeline.defs Cert.KernelIdeal.pcfgs x)) bodies_eq

/-- `Cert.quiescent_Kernel`. -/
theorem frame_kernel : Cert.quiescent_Kernel := fun m ρ _ =>
  cast (congrArg (fun x => θ_run x (Cert.Kernel.threads (F := Bits)) ⟨m, fun _ => 0, ρ⟩ _) tables_eq.symm)
    ((θ_run (Cert.KernelIdeal.defs (F := Bits)) _ _).mono
      (fun _ h => ⟨fun c => (h.1 c _ kept_arg0).trans (end_arg0 (F := Bits) m c), h.2⟩) (run_main (F := Bits) m ρ))

/-- `Cert.quiescent_KernelIdeal`. -/
theorem frame_ideal : Cert.quiescent_KernelIdeal := fun m ρ _ =>
  (θ_run (Cert.KernelIdeal.defs (F := Ideal)) _ _).mono
    (fun _ h => ⟨fun c => (h.1 c _ kept_arg0).trans (end_arg0 (F := Ideal) m c), h.2⟩) (run_main (F := Ideal) m ρ)

/-- `Cert.quiescent_ReferenceIdeal`. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- `Cert.preserves_Kernel_KernelIdeal`: each named constant has the value that its table gives. -/
theorem preserves : Cert.preserves_Kernel_KernelIdeal :=
  ⟨IdealRules.named_const.statement Cert.KernelIdeal.κ "inv_ln2" .f32 0x3FB8AA3B#32 (((Real.log 2)⁻¹ : ℝ) : EReal) rfl,
    IdealRules.named_const.statement Cert.KernelIdeal.κ "tenth" .f32 0x3DCCCCCD#32 ((1 / 10 : ℝ) : EReal) rfl⟩

end Cert.Hist

end
-- ==== Proof.RefGather.lean ====
/-
  The reference's gather along the last axis, read at an index, and the table of threes it takes its indices from.
-/
module

public import proofs.«01_k».proof.Proof.Gen.ReferenceIdeal
public import Idealize.ShloMosaic.Lib.Pointwise

@[expose] public section

set_option maxRecDepth 16384

noncomputable section

namespace Cert.Hist

open Idealize.ShloMosaic

/-- The dimension numbers of a gather of single entries along the last of three axes, for start indices `[R, C, 1]`. -/
abbrev lastDims (N A M R C : ℕ)
    (wf : GatherDims.WF ⟨3, ![N, A, M]⟩ ⟨3, ![R, C, 1]⟩ ⟨4, ![N, A, R, C]⟩ [0, 1] [2] [] [2] [] 2 ![N, A, 1]) :
    GatherDims ⟨3, ![N, A, M]⟩ ⟨3, ![R, C, 1]⟩ ⟨4, ![N, A, R, C]⟩ where
  offsetDims := [0, 1]
  collapsedSliceDims := [2]
  operandBatchingDims := []
  startIndicesBatchingDims := []
  startIndexMap := [2]
  indexVectorDim := 2
  sliceSizes := ![N, A, 1]
  wf := wf

/-- That gather read at an index: the operand at the start index, read signed and clamped to the last axis. -/
theorem gather_last {α : Type} {N A M R C w : ℕ} (hM : 0 < M)
    (wf : GatherDims.WF ⟨3, ![N, A, M]⟩ ⟨3, ![R, C, 1]⟩ ⟨4, ![N, A, R, C]⟩ [0, 1] [2] [] [2] [] 2 ![N, A, 1])
    (x : (⟨3, ![N, A, M]⟩ : Shape).Idx → α) (idx : IVec ⟨3, ![R, C, 1]⟩ w) (n : Fin N) (i : Fin A) (s : Fin R) (j : Fin C) :
    Host.gather (lastDims N A M R C wf) x idx (ix4 n i s j)
      = x (ix3 n i ⟨min (idx (ix3 s j ⟨0, Nat.one_pos⟩)).toInt.toNat (M - 1), by omega⟩) := by
  unfold Host.gather
  refine congrArg x (funext fun a => Fin.ext ?_)
  show (lastDims N A M R C wf).start (ix4 n i s j) idx a + (lastDims N A M R C wf).batchCoord (ix4 n i s j) a
      + (lastDims N A M R C wf).offCoord (ix4 n i s j) a = _
  rw [GatherDims.batchCoord_eq_zero _ _ _ (fun h => by simp at h)]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · unfold GatherDims.start
    rw [dif_neg (show (0 : Fin 3) ∉ (lastDims N A M R C wf).startIndexMap from by simp [lastDims])]
    unfold GatherDims.offCoord
    rw [dif_pos ((GatherDims.mem_sKept _ _).mpr ⟨by simp [lastDims], by simp [lastDims]⟩)]
    simp only [Nat.zero_add]
    rfl
  · unfold GatherDims.start
    rw [dif_neg (show (1 : Fin 3) ∉ (lastDims N A M R C wf).startIndexMap from by simp [lastDims])]
    unfold GatherDims.offCoord
    rw [dif_pos ((GatherDims.mem_sKept _ _).mpr ⟨by simp [lastDims], by simp [lastDims]⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims N A M R C wf).startIndexMap from List.mem_singleton.mpr rfl)]
    have hsi : (lastDims N A M R C wf).siIdx (ix4 n i s j) ⟨List.idxOf (2 : Fin 3) (lastDims N A M R C wf).startIndexMap,
        List.idxOf_lt_length_iff.2 (List.mem_singleton.mpr rfl)⟩ = ix3 s j ⟨0, Nat.one_pos⟩ := by
      funext b; refine Fin.ext ?_
      match b with
      | ⟨0, _⟩ => rfl
      | ⟨1, _⟩ => rfl
      | ⟨2, _⟩ => rfl
    rw [hsi]
    rfl

end Cert.Hist

end
-- ==== Proof.Counts.lean ====
/-
  The histograms as numbers of words, over the extended reals: a worker's histogram holds, at each row and lane, how many
  of the worker's words in that lane have the row's field; summed over workers and lanes, how many words have it.
-/
module

public import proofs.«01_k».proof.Proof.Tile
public import Idealize.ShloMosaic.Lib.Pipeline.ValueKit
public import Idealize.ShloMosaic.Lib.IdealHost

@[expose] public section

set_option maxRecDepth 16384

noncomputable section

namespace Cert.Hist

open Cert.KernelIdeal Cert.KernelIdeal.Gen
open Idealize.ShloMosaic

/-- Word `p` has the field that row `r` of a histogram counts: rows `16 * i` to `16 * i + 15` count the values of nibble
    `i`, rows 80 to 111 those of the five bits above the nibbles. -/
def HasField (p r : ℕ) : Prop :=
  if r < 80 then p / 16 ^ (r / 16) % 16 = r % 16 else p / 2 ^ 20 % 32 = r - 80

instance (p r : ℕ) : Decidable (HasField p r) := by unfold HasField; infer_instance

/-- Below row 80 a field is a nibble and its value. -/
theorem hasField_low {p r : ℕ} (h : r < 80) : HasField p r ↔ p / 16 ^ (r / 16) % 16 = r % 16 := by unfold HasField; rw [if_pos h]
/-- From row 80 on it is the five bits above the nibbles. -/
theorem hasField_high {p r : ℕ} (h : ¬ r < 80) : HasField p r ↔ p / 2 ^ 20 % 32 = r - 80 := by unfold HasField; rw [if_neg h]

/-- Additions of one, each at one place, one after another: each place gains the number of additions that name it. -/
theorem foldl_add_one {ι κ : Type} [DecidableEq κ] (at_ : ι → κ) (l : List ι) (g : κ → EReal) (j : κ) :
    l.foldl (fun g k => fun j => if j = at_ k then g (at_ k) + 1 else g j) g j
      = g j + ((l.map fun k => if j = at_ k then 1 else 0).sum : ℕ) := by
  induction l generalizing g with
  | nil => simp
  | cons k l ih =>
    rw [List.foldl_cons, ih, List.map_cons, List.sum_cons, Nat.cast_add, ← add_assoc]
    by_cases h : j = at_ k
    · subst h; simp
    · simp [h]

/-- Lane `l` as an index of a vector of sixteen. -/
def lane (l : Fin 16) : S16.Idx := Shape.ofLane (d := ![16]) l
theorem lane_val (l : Fin 16) : (lane l 0).val = l.val := rfl

/-- `bump` adds one at each of its sixteen indices. -/
theorem bump_apply (h : Hst Ideal) (v : IVec S16 32) (hv : Within v) (j : S1792.Idx) :
    bump h v hv j = h j + ((∑ l : Fin 16, if (j 0).val = (v (lane l)).toNat then 1 else 0 : ℕ) : EReal) := by
  have hone : ∀ x, ones (F := Ideal) x = (1 : EReal) := fun x => Ideal.ofBits_one_f32
  have hpt : ∀ (i j : S1792.Idx), (∀ a, (j a).val = (i a).val) ↔ j = i := fun i j =>
    ⟨fun h => funext fun a => Fin.ext (h a), fun h a => by rw [h]⟩
  have hj : ∀ k, (j = idxAt (s := S1792) ![v] (k1_idx1_inb v hv) (lane k)) ↔ (j 0).val = (v (lane k)).toNat := fun k => by
    constructor
    · intro h; rw [h]; rfl
    · intro h; funext a; obtain rfl : a = 0 := Subsingleton.elim _ _; exact Fin.ext h
  have hf : bump h v hv = (List.finRange 16).foldl (fun g k => fun j =>
      if j = idxAt (s := S1792) ![v] (k1_idx1_inb v hv) (lane k)
        then g (idxAt (s := S1792) ![v] (k1_idx1_inb v hv) (lane k)) + 1 else g j) h := by
    unfold bump storeIdx
    refine congrArg (fun f => List.foldl f h (List.finRange 16)) ?_
    funext g k j
    simp only [if_true, hpt]
    rw [hone]
    rfl
  rw [hf]
  refine (foldl_add_one (fun k : Fin 16 => idxAt (s := S1792) ![v] (k1_idx1_inb v hv) (lane k)) (List.finRange 16) h j).trans ?_
  refine congrArg (fun n : ℕ => h j + (n : EReal)) ?_
  rw [← List.ofFn_eq_map, List.sum_ofFn]
  exact Finset.sum_congr rfl fun k _ => if_congr (hj k) rfl rfl

/-- The lane a place of the histogram belongs to. -/
def laneOf (n : ℕ) : S16.Idx := lane ⟨n % 16, Nat.mod_lt _ (by decide)⟩

/-- Where each index lies in its own lane, `bump` adds one at the places its indices name. -/
theorem bump_lane (h : Hst Ideal) (v : IVec S16 32) (hv : Within v) (q : S16.Idx → ℕ) (b : ℕ)
    (hq : ∀ x, (v x).toNat = 16 * q x + 16 * b + (x 0).val) (j : S1792.Idx) :
    bump h v hv j = h j + ((if (j 0).val / 16 = b + q (laneOf (j 0).val) then 1 else 0 : ℕ) : EReal) := by
  rw [bump_apply]
  refine congrArg (fun n : ℕ => h j + (n : EReal)) ?_
  rw [Finset.sum_eq_single (⟨(j 0).val % 16, Nat.mod_lt _ (by decide)⟩ : Fin 16)]
  · rw [hq, lane_val]
    refine if_congr ?_ rfl rfl
    show (j 0).val = 16 * q (laneOf (j 0).val) + 16 * b + (j 0).val % 16 ↔ _
    omega
  · intro l _ hl
    rw [if_neg]
    rw [hq, lane_val]
    intro h'
    apply hl
    apply Fin.ext
    have := l.isLt
    show l.val = (j 0).val % 16
    omega
  · intro h'; exact absurd (Finset.mem_univ _) h'

/-- Of the six fields of a word, row `r` can match only the one it counts. -/
theorem six_fields (w r : ℕ) (hr : r < 112) :
    (if r = 0 + w % 16 then 1 else 0) + ((if r = 16 + w / 16 % 16 then 1 else 0) + ((if r = 32 + w / 2 ^ 8 % 16 then 1 else 0)
      + ((if r = 48 + w / 2 ^ 12 % 16 then 1 else 0) + ((if r = 64 + w / 2 ^ 16 % 16 then 1 else 0)
        + (if r = 80 + w / 2 ^ 20 % 32 then 1 else 0))))) = if HasField w r then 1 else 0 := by
  have b0 := Nat.mod_lt w (show 16 > 0 by decide)
  have b1 := Nat.mod_lt (w / 16) (show 16 > 0 by decide)
  have b2 := Nat.mod_lt (w / 2 ^ 8) (show 16 > 0 by decide)
  have b3 := Nat.mod_lt (w / 2 ^ 12) (show 16 > 0 by decide)
  have b4 := Nat.mod_lt (w / 2 ^ 16) (show 16 > 0 by decide)
  have b5 := Nat.mod_lt (w / 2 ^ 20) (show 32 > 0 by decide)
  by_cases h5 : r < 80
  · simp only [hasField_low h5]
    have hi : r / 16 = 0 ∨ r / 16 = 1 ∨ r / 16 = 2 ∨ r / 16 = 3 ∨ r / 16 = 4 := by omega
    have e : ∀ i, w / 16 ^ i = w / 2 ^ (4 * i) := fun i => by rw [pow_mul]; rfl
    rw [e]
    rcases hi with hi | hi | hi | hi | hi <;> rw [hi] <;> norm_num only [pow_zero, Nat.div_one] at b0 b1 b2 b3 b4 b5 ⊢ <;>
    generalize w % 16 = c0 at * <;> generalize w / 16 % 16 = c1 at * <;> generalize w / 256 % 16 = c2 at * <;>
    generalize w / 4096 % 16 = c3 at * <;> generalize w / 65536 % 16 = c4 at * <;> generalize w / 1048576 % 32 = c5 at * <;> split_ifs <;> omega
  · simp only [hasField_high h5]
    generalize w % 16 = c0 at * ; generalize w / 16 % 16 = c1 at * ; generalize w / 2 ^ 8 % 16 = c2 at *
    generalize w / 2 ^ 12 % 16 = c3 at * ; generalize w / 2 ^ 16 % 16 = c4 at * ; generalize w / 2 ^ 20 % 32 = c5 at *
    split_ifs <;> omega

/-- One trip's six ones a lane: each place gains one where its lane's word has its row's field. -/
theorem step_apply (h : Hst Ideal) (p : Vec Ideal S16 .i32) (j : S1792.Idx) :
    step h p j = h j + ((if HasField (p (laneOf (j 0).val)).toNat ((j 0).val / 16) then 1 else 0 : ℕ) : EReal) := by
  unfold step
  rw [bump_lane _ _ (within6 p) (fun x => (p x).toNat / 2 ^ 20 % 32) 80 (fun x => by rw [ix6_toNat]),
    bump_lane _ _ (within5 p) (fun x => (p x).toNat / 2 ^ 16 % 16) 64 (fun x => by rw [ix5_toNat]),
    bump_lane _ _ (within4 p) (fun x => (p x).toNat / 2 ^ 12 % 16) 48 (fun x => by rw [ix4_toNat]),
    bump_lane _ _ (within3 p) (fun x => (p x).toNat / 2 ^ 8 % 16) 32 (fun x => by rw [ix3_toNat]),
    bump_lane _ _ (within2 p) (fun x => (p x).toNat / 16 % 16) 16 (fun x => by rw [ix2_toNat]),
    bump_lane _ _ (within1 p) (fun x => (p x).toNat % 16) 0 (fun x => by rw [ix1_toNat]; omega)]
  generalize (p (laneOf (j 0).val)).toNat = w
  simp only [add_assoc, ← Nat.cast_add]
  refine congrArg (fun n : ℕ => h j + (n : EReal)) ?_
  have hr : (j 0).val / 16 < 112 := by have : (j 0).val < 1792 := (j 0).isLt; omega
  exact six_fields w _ hr

/-- After `n` trips a worker's histogram holds, at each place, how many of the words its lane has read have its row's field. -/
theorem hist_apply (pk : Packed) (w n : ℕ) (j : S1792.Idx) :
    hist (F := Ideal) pk w n j
      = ((∑ t ∈ Finset.range n, if HasField (pk (wordAt (16 * (2048 * w + t) + (j 0).val % 16))).toNat ((j 0).val / 16) then 1 else 0 : ℕ) : EReal) := by
  induction n with
  | zero =>
    rw [Finset.sum_range_zero]
    rw [Nat.cast_zero]
    exact Ideal.ofBits_zero_f32
  | succ n ih =>
    rw [Finset.sum_range_succ, Nat.cast_add, ← ih]
    exact step_apply _ _ _

/-- How many of the words have row `r`'s field. -/
def fieldCount (pk : Packed) (r : ℕ) : ℕ := ∑ n ∈ Finset.range 1048576, if HasField (pk (wordAt n)).toNat r then 1 else 0

/-- The words, worker by worker, lane by lane, trip by trip, are all the words. -/
theorem all_words (f : ℕ → ℕ) :
    ∑ w ∈ Finset.range 32, ∑ l ∈ Finset.range 16, ∑ t ∈ Finset.range 2048, f (16 * (2048 * w + t) + l) = ∑ n ∈ Finset.range 1048576, f n := by
  have h1 := Finset.sum_range_mul_split 32 32768 f
  have h2 : ∀ w, ∑ b ∈ Finset.range 32768, f (w * 32768 + b) = ∑ l ∈ Finset.range 16, ∑ t ∈ Finset.range 2048, f (16 * (2048 * w + t) + l) := fun w => by
    have := Finset.sum_range_mul_split 2048 16 fun b => f (w * 32768 + b)
    rw [Finset.sum_comm]
    refine this.trans (Finset.sum_congr rfl fun t _ => Finset.sum_congr rfl fun l _ => congrArg f (by ring))
  exact ((Finset.sum_congr rfl fun w _ => (h2 w).symm).trans h1.symm)

/-- The histograms summed over workers and lanes: at each row, how many of the words have its field. -/
theorem hists_sum (pk : Packed) (r : ℕ) (hr : r < 112) (C : ℕ → ℕ → EReal)
    (hC : ∀ w < 32, ∀ l < 16, ∃ j : S57344.Idx, (j 0).val = 1792 * w + 16 * r + l ∧ C w l = hists (F := Ideal) pk j) :
    ∑ w ∈ Finset.range 32, ∑ l ∈ Finset.range 16, C w l = ((fieldCount pk r : ℕ) : EReal) := by
  have hval : ∀ w < 32, ∀ l < 16, C w l
      = ((∑ t ∈ Finset.range 2048, if HasField (pk (wordAt (16 * (2048 * w + t) + l))).toNat r then 1 else 0 : ℕ) : EReal) := by
    intro w hw l hl
    obtain ⟨j, hj, e⟩ := hC w hw l hl
    rw [e]
    unfold hists
    have e2 : (j 0).val % S1792.size 0 = 16 * r + l := by rw [hj]; show (1792 * w + 16 * r + l) % 1792 = _; omega
    rw [hist_apply]
    simp only [e2]
    rw [show (j 0).val / 1792 = w by omega, show (16 * r + l) % 16 = l by omega, show (16 * r + l) / 16 = r by omega]
  rw [Finset.sum_congr rfl fun w hw => Finset.sum_congr rfl fun l hl => hval w (Finset.mem_range.mp hw) l (Finset.mem_range.mp hl)]
  unfold fieldCount
  rw [← all_words fun n => if HasField (pk (wordAt n)).toNat r then 1 else 0]
  simp only [Nat.cast_sum]

end Cert.Hist
-- ==== Proof.Pack.lean ====
/-
  The packed words over the extended reals: a row of `phi` as five nibbles, the signs of its five blocks of four columns, and
  five bits above them, the signs of the blocks' sums.
-/
module

public import proofs.«01_k».proof.Proof.Regions
public import Idealize.ShloMosaic.Lib.Pointwise
public import Idealize.ShloMosaic.Lib.Pipeline.ValueKit
public import Idealize.ShloMosaic.Lib.IdealHost

@[expose] public section

set_option maxRecDepth 16384

noncomputable section

namespace Cert.Hist

open Cert.KernelIdeal Cert.KernelIdeal.Gen
open Idealize.ShloMosaic

/-- One where `a` is positive, zero elsewhere. -/
def bitOf (a : EReal) : ℕ := open Classical in if 0 < a then 1 else 0

/-- A bit is at most one. -/
theorem bitOf_le (a : EReal) : bitOf a ≤ 1 := by unfold bitOf; split_ifs <;> decide

/-- The sum of block `i` of a row: columns `4 * i` to `4 * i + 3`. -/
def blockSum (x : ℕ → EReal) (i : ℕ) : EReal := x (4 * i) + x (4 * i + 1) + (x (4 * i + 2) + x (4 * i + 3))

/-- The signs of block `i` of a row, as the bits of a number below 16. -/
def nib (x : ℕ → EReal) (i : ℕ) : ℕ :=
  bitOf (x (4 * i)) + 2 * bitOf (x (4 * i + 1)) + 4 * bitOf (x (4 * i + 2)) + 8 * bitOf (x (4 * i + 3))

/-- The signs of the sums of a row's five blocks, as the bits of a number below 32. -/
def grp (x : ℕ → EReal) : ℕ :=
  bitOf (blockSum x 0) + 2 * bitOf (blockSum x 1) + 4 * bitOf (blockSum x 2) + 8 * bitOf (blockSum x 3) + 16 * bitOf (blockSum x 4)

/-- A nibble is below 16. -/
theorem nib_lt (x : ℕ → EReal) (i : ℕ) : nib x i < 16 := by
  have h0 := bitOf_le (x (4 * i)); have h1 := bitOf_le (x (4 * i + 1)); have h2 := bitOf_le (x (4 * i + 2)); have h3 := bitOf_le (x (4 * i + 3))
  unfold nib; omega

/-- Five bits are below 32. -/
theorem grp_lt (x : ℕ → EReal) : grp x < 32 := by
  have h0 := bitOf_le (blockSum x 0); have h1 := bitOf_le (blockSum x 1); have h2 := bitOf_le (blockSum x 2)
  have h3 := bitOf_le (blockSum x 3); have h4 := bitOf_le (blockSum x 4)
  unfold grp; omega

/-- A word where `a` is positive and zero elsewhere is the word times `a`'s bit. -/
theorem ite_word (a : EReal) [Decidable (0 < a)] (w : BitVec 32) : (if 0 < a then w else 0#32) = BitVec.ofNat 32 (w.toNat * bitOf a) := by
  unfold bitOf
  by_cases h : 0 < a
  · simp [h]
  · simp [h]

/-- The sum of two words of numbers is the word of their sum. -/
theorem addi_ofNat (a b : ℕ) : IntOp.addi (BitVec.ofNat 32 a) (BitVec.ofNat 32 b) = BitVec.ofNat 32 (a + b) := (BitVec.ofNat_add a b).symm

/-- A sum of words is the word of the sum. -/
theorem fold_ofNat {ι : Type} (S : Finset ι) (f : ι → BitVec 32) (n : ι → ℕ) (h : ∀ k, f k = BitVec.ofNat 32 (n k)) :
    Finset.fold IntOp.addi (0#32) f S = BitVec.ofNat 32 (∑ k ∈ S, n k) := by
  classical
  induction S using Finset.induction_on with
  | empty => rfl
  | insert a S ha ih => rw [Finset.fold_insert ha, ih, h, Finset.sum_insert ha, addi_ofNat]

/-- What rows `k` and `8 + k` contribute to a packed word. -/
def part8 (x : ℕ → EReal) (k : ℕ) : ℕ :=
  2 ^ k * bitOf (x k) + (if k = 0 then 2 ^ 20 * bitOf (blockSum x 0) else if k = 4 then 2 ^ 21 * bitOf (blockSum x 1) else 0)
    + (2 ^ (k + 8) * bitOf (x (8 + k)) + (if k = 0 then 2 ^ 22 * bitOf (blockSum x 2) else if k = 4 then 2 ^ 23 * bitOf (blockSum x 3) else 0))
/-- What row `16 + k` contributes to a packed word. -/
def part4 (x : ℕ → EReal) (k : ℕ) : ℕ :=
  2 ^ (k + 16) * bitOf (x (16 + k)) + (if k = 0 then 2 ^ 24 * bitOf (blockSum x 4) else 0)

/-- The packing kernel's word for a column `x` of its block, as a number's word. -/
theorem pack_word (x : ℕ → EReal) (v1 v39 : Vec Ideal S8x32768 .f32) (v78 : Vec Ideal S4x32768 .f32) (l : Fin 32768)
    (h1 : ∀ r : Fin 8, v1 (ix2 r l) = x r.val) (h39 : ∀ r : Fin 8, v39 (ix2 r l) = x (8 + r.val)) (h78 : ∀ r : Fin 4, v78 (ix2 r l) = x (16 + r.val)) :
    k0_pay1 (k0_pay3 (iota .tc S8x1 32 [0] iota_S8x1_d0_w32) (k0_pay2 v1) v39) (k0_pay4 v78) (iota .tc S4x1 32 [0] iota_S4x1_d0_w32) (ix1 l)
      = BitVec.ofNat 32 (∑ k : Fin 8, part8 x k.val + ∑ k : Fin 4, part4 x k.val) := by
  pointwise [k0_pay1, k0_pay2, k0_pay3, k0_pay4]
  simp only [h1, h39, h78, ite_word]
  rw [fold_ofNat _ _ (fun k : Fin 8 => part8 x k.val), fold_ofNat _ _ (fun k : Fin 4 => part4 x k.val), addi_ofNat]
  · intro k
    fin_cases k <;> simp [part4, blockSum, IntOp.shli, IntOp.cmpi, Scalar.shli, Scalar.select, IntOp.addi]
    all_goals simp only [BitVec.ofNat_add]
  · intro k
    fin_cases k <;> simp [part8, blockSum, IntOp.shli, IntOp.cmpi, Scalar.shli, Scalar.select, IntOp.addi]
    all_goals simp only [BitVec.ofNat_add]

/-- The number packed for a row: its five nibbles and the five bits above them. -/
def packNat (x : ℕ → EReal) : ℕ :=
  nib x 0 + 16 * nib x 1 + 16 ^ 2 * nib x 2 + 16 ^ 3 * nib x 3 + 16 ^ 4 * nib x 4 + 2 ^ 20 * grp x

/-- The contributions of the twenty rows make up the packed number. -/
theorem parts_eq (x : ℕ → EReal) : ∑ k : Fin 8, part8 x k.val + ∑ k : Fin 4, part4 x k.val = packNat x := by
  rw [Fin.sum_univ_eight, Fin.sum_univ_four]
  unfold packNat nib grp
  simp [part8, part4]
  ring

/-- A packed number has 25 bits. -/
theorem packNat_lt (x : ℕ → EReal) : packNat x < 2 ^ 25 := by
  have h0 := nib_lt x 0; have h1 := nib_lt x 1; have h2 := nib_lt x 2; have h3 := nib_lt x 3; have h4 := nib_lt x 4; have h5 := grp_lt x
  unfold packNat; omega

/-- Its five low nibbles are the nibbles of the blocks. -/
theorem packNat_nib (x : ℕ → EReal) (i : ℕ) (hi : i < 5) : packNat x / 16 ^ i % 16 = nib x i := by
  have h0 := nib_lt x 0; have h1 := nib_lt x 1; have h2 := nib_lt x 2; have h3 := nib_lt x 3; have h4 := nib_lt x 4; have h5 := grp_lt x
  unfold packNat
  have : i = 0 ∨ i = 1 ∨ i = 2 ∨ i = 3 ∨ i = 4 := by omega
  rcases this with rfl | rfl | rfl | rfl | rfl <;> omega

/-- The five bits above them are those of the blocks' sums. -/
theorem packNat_grp (x : ℕ → EReal) : packNat x / 2 ^ 20 % 32 = grp x := by
  have h0 := nib_lt x 0; have h1 := nib_lt x 1; have h2 := nib_lt x 2; have h3 := nib_lt x 3; have h4 := nib_lt x 4; have h5 := grp_lt x
  unfold packNat
  omega

/-- Column `n` of the transpose, as a row of twenty entries. -/
def colOf (x : S20x1048576.Idx → EReal) (n : ℕ) : ℕ → EReal := fun c =>
  x (ix2 ⟨c % 20, Nat.mod_lt _ (by decide)⟩ ⟨n % 1048576, Nat.mod_lt _ (by decide)⟩)

/-- The packed word of each row is its number. -/
theorem packedOf_toNat (x : S20x1048576.Idx → EReal) (j : S1048576.Idx) :
    (packedOf (F := Ideal) x j).toNat = packNat (colOf x (j 0).val) := by
  have hj : (j 0).val < 1048576 := (j 0).isLt
  unfold packedOf packBlock
  rw [pack_word (colOf x (j 0).val), parts_eq, BitVec.toNat_ofNat]
  · have := packNat_lt (colOf x (j 0).val)
    omega
  · intro r
    have hr : r.val < 8 := r.isLt
    unfold rowBlock colOf
    rw [View.ld_apply]
    refine congrArg x ?_
    funext a
    apply Fin.ext
    fin_cases a
    · show 0 + 1 * r.val = r.val % 20
      omega
    · show 32768 * ((j 0).val / 32768) + (0 + 1 * ((j 0).val % 32768)) = (j 0).val % 1048576
      omega
  · intro r
    have hr : r.val < 8 := r.isLt
    unfold rowBlock colOf
    rw [View.ld_apply]
    refine congrArg x ?_
    funext a
    apply Fin.ext
    fin_cases a
    · show 8 + 1 * r.val = (8 + r.val) % 20
      omega
    · show 32768 * ((j 0).val / 32768) + (0 + 1 * ((j 0).val % 32768)) = (j 0).val % 1048576
      omega
  · intro r
    have hr : r.val < 4 := r.isLt
    unfold rowBlock colOf
    rw [View.ld_apply]
    refine congrArg x ?_
    funext a
    apply Fin.ext
    fin_cases a
    · show 16 + 1 * r.val = (16 + r.val) % 20
      omega
    · show 32768 * ((j 0).val / 32768) + (0 + 1 * ((j 0).val % 32768)) = (j 0).val % 1048576
      omega

end Cert.Hist
-- ==== Proof.TableBits.lean ====
/-
  The bit patterns of the two host tables: which rows of a histogram count toward which keys, and with what weight each key
  counts in each average.
-/
module

public import proofs.«01_k».proof.KernelIdeal
public import Mathlib.Tactic.IntervalCases

@[expose] public section

set_option maxRecDepth 16384

noncomputable section

namespace Cert.Hist

open Cert.KernelIdeal
open Idealize.ShloMosaic

/-- Bits `a`, `b` and `c` of `v`, as a number below eight. -/
def key3 (v a b c : ℕ) : ℕ := v / 2 ^ a % 2 + 2 * (v / 2 ^ b % 2) + 4 * (v / 2 ^ c % 2)

/-- The key of `v`'s bits at the `s`-th three of four positions. -/
def key4 (v s : ℕ) : ℕ := match s with
  | 0 => key3 v 0 1 2 | 1 => key3 v 0 1 3 | 2 => key3 v 0 2 3 | _ => key3 v 1 2 3

/-- The key of `v`'s bits at the `s`-th three of five positions. -/
def key5 (v s : ℕ) : ℕ := match s with
  | 0 => key3 v 0 1 2 | 1 => key3 v 0 1 3 | 2 => key3 v 0 1 4 | 3 => key3 v 0 2 3 | 4 => key3 v 0 2 4
  | 5 => key3 v 0 3 4 | 6 => key3 v 1 2 3 | 7 => key3 v 1 2 4 | 8 => key3 v 1 3 4 | _ => key3 v 2 3 4

/-- Row `r` counts toward column `q`: columns `32 * i + 8 * s + k` collect key `k` of the `s`-th three columns of block `i`,
    columns `160 + 8 * s + k` key `k` of the `s`-th three blocks. -/
def feeds (r q : ℕ) : Bool :=
  if q < 160 then decide (r / 16 = q / 32 ∧ key4 (r % 16) (q / 8 % 4) = q % 8)
  else decide (80 ≤ r ∧ key5 (r - 80) ((q - 160) / 8) = (q - 160) % 8)

/-- The first table's bit patterns in the fourteen rows from row `14 * k`. -/
def RowsHold (k : ℕ) : Prop := ∀ r : Fin 14, ∀ q : Fin 240,
  lit0t ((14 * k + r.val) * 240 + q.val) = if feeds (14 * k + r.val) q.val then 0x3F800000#32 else 0#32

instance (k : ℕ) : Decidable (RowsHold k) := by unfold RowsHold; infer_instance

theorem rows0 : RowsHold 0 := by decide +kernel
theorem rows1 : RowsHold 1 := by decide +kernel
theorem rows2 : RowsHold 2 := by decide +kernel
theorem rows3 : RowsHold 3 := by decide +kernel
theorem rows4 : RowsHold 4 := by decide +kernel
theorem rows5 : RowsHold 5 := by decide +kernel
theorem rows6 : RowsHold 6 := by decide +kernel
theorem rows7 : RowsHold 7 := by decide +kernel

/-- The first table's bit patterns: one where the row counts toward the column, zero elsewhere. -/
theorem tableM_bits (r : Fin 112) (q : Fin 240) : lit0t (r.val * 240 + q.val) = if feeds r.val q.val then 0x3F800000#32 else 0#32 := by
  have h : ∀ k, k < 8 → RowsHold k := fun k hk => by
    interval_cases k
    exacts [rows0, rows1, rows2, rows3, rows4, rows5, rows6, rows7]
  have hr := r.isLt
  have := h (r.val / 14) (by omega) ⟨r.val % 14, Nat.mod_lt _ (by decide)⟩ q
  dsimp only at this
  rwa [Nat.div_add_mod] at this

/-- The second table's bit patterns: a quarter in a block's own column, one in the last column for the block sums. -/
theorem tableG_bits : ∀ q : Fin 240, ∀ c : Fin 8, lit1t (q.val * 8 + c.val)
    = if q.val < 160 then (if c.val = q.val / 32 then 0x3E800000#32 else 0#32) else if c.val = 5 then 0x3F800000#32 else 0#32 := by
  decide +kernel

end Cert.Hist
-- ==== Proof.Keys.lean ====
/-
  From histogram rows to keys: the rows that feed a column of the first table, counted over all words, are the words with
  the column's key.
-/
module

public import proofs.«01_k».proof.Proof.Counts
public import proofs.«01_k».proof.Proof.Pack
public import proofs.«01_k».proof.Proof.TableBits

@[expose] public section

set_option maxRecDepth 16384

noncomputable section

namespace Cert.Hist

open Cert.KernelIdeal Cert.KernelIdeal.Gen
open Idealize.ShloMosaic

/-- How many rows have key `k` at the `s`-th three columns of block `i`. -/
def count4 (x : ℕ → ℕ → EReal) (i s k : ℕ) : ℕ := ∑ n ∈ Finset.range 1048576, if key4 (nib (x n) i) s = k then 1 else 0
/-- How many rows have key `k` at the `s`-th three blocks. -/
def count5 (x : ℕ → ℕ → EReal) (s k : ℕ) : ℕ := ∑ n ∈ Finset.range 1048576, if key5 (grp (x n)) s = k then 1 else 0

/-- The number of rows with column `q`'s key. -/
def colCount (x : ℕ → ℕ → EReal) (q : ℕ) : ℕ :=
  if q < 160 then count4 x (q / 32) (q / 8 % 4) (q % 8) else count5 x ((q - 160) / 8) ((q - 160) % 8)

/-- One word has a field that feeds column `q` exactly when it has the column's key, and then only one. -/
theorem feeds_word (y : ℕ → EReal) (q : ℕ) (hq : q < 240) :
    ∑ r ∈ Finset.range 112, (if HasField (packNat y) r then (if feeds r q then 1 else 0) else 0 : ℕ)
      = if q < 160 then (if key4 (nib y (q / 32)) (q / 8 % 4) = q % 8 then 1 else 0)
        else (if key5 (grp y) ((q - 160) / 8) = (q - 160) % 8 then 1 else 0) := by
  by_cases h : q < 160
  · rw [if_pos h]
    have hb := nib_lt y (q / 32)
    have hi : q / 32 < 5 := by omega
    have hd : (16 * (q / 32) + nib y (q / 32)) / 16 = q / 32 := by omega
    have hm : (16 * (q / 32) + nib y (q / 32)) % 16 = nib y (q / 32) := by omega
    rw [Finset.sum_eq_single (16 * (q / 32) + nib y (q / 32))]
    · rw [if_pos]
      · unfold feeds
        rw [if_pos h, hd, hm]
        simp
      · rw [hasField_low (by omega), hd, hm]
        exact packNat_nib y _ hi
    · intro r _ hr
      split_ifs with h1 h2
      · exfalso
        unfold feeds at h2
        rw [if_pos h] at h2
        have h3 := (of_decide_eq_true h2).1
        rw [hasField_low (by omega), h3, packNat_nib y _ hi] at h1
        omega
      · rfl
      · rfl
    · intro h'; exact absurd (Finset.mem_range.mpr (by omega)) h'
  · rw [if_neg h]
    have hb := grp_lt y
    rw [Finset.sum_eq_single (80 + grp y)]
    · rw [if_pos]
      · unfold feeds
        rw [if_neg h, show 80 + grp y - 80 = grp y by omega]
        simp
      · rw [hasField_high (by omega), packNat_grp]; omega
    · intro r _ hr
      split_ifs with h1 h2
      · exfalso
        unfold feeds at h2
        rw [if_neg h] at h2
        have h3 := (of_decide_eq_true h2).1
        rw [hasField_high (by omega), packNat_grp] at h1
        omega
      · rfl
      · rfl
    · intro h'; exact absurd (Finset.mem_range.mpr (by omega)) h'

/-- The rows' counts gathered by the first table: each column's number of rows with its key. -/
theorem colCount_eq (x : ℕ → ℕ → EReal) (pk : Packed) (hpk : ∀ n < 1048576, (pk (wordAt n)).toNat = packNat (x n)) (q : ℕ) (hq : q < 240) :
    ∑ r ∈ Finset.range 112, fieldCount pk r * (if feeds r q then 1 else 0) = colCount x q := by
  unfold fieldCount
  simp only [Finset.sum_mul, ite_mul, one_mul, zero_mul]
  rw [Finset.sum_comm]
  have h : ∀ n ∈ Finset.range 1048576, ∑ r ∈ Finset.range 112, (if HasField (pk (wordAt n)).toNat r then (if feeds r q then 1 else 0) else 0 : ℕ)
      = if q < 160 then (if key4 (nib (x n) (q / 32)) (q / 8 % 4) = q % 8 then 1 else 0)
        else (if key5 (grp (x n)) ((q - 160) / 8) = (q - 160) % 8 then 1 else 0) := fun n hn => by
    rw [hpk n (Finset.mem_range.mp hn)]
    exact feeds_word (x n) q hq
  rw [Finset.sum_congr rfl h]
  unfold colCount count4 count5
  split_ifs <;> rfl

/-- No more rows have a local key than there are rows. -/
theorem count4_le (x : ℕ → ℕ → EReal) (i s k : ℕ) : count4 x i s k ≤ 1048576 := by
  unfold count4
  refine (Finset.sum_le_sum (g := fun _ => 1) fun n _ => ?_).trans (by rw [Finset.sum_const, Finset.card_range]; rfl)
  split_ifs <;> omega

/-- No more rows have a global key than there are rows. -/
theorem count5_le (x : ℕ → ℕ → EReal) (s k : ℕ) : count5 x s k ≤ 1048576 := by
  unfold count5
  refine (Finset.sum_le_sum (g := fun _ => 1) fun n _ => ?_).trans (by rw [Finset.sum_const, Finset.card_range]; rfl)
  split_ifs <;> omega

end Cert.Hist
-- ==== Proof.RefCounts.lean ====
/-
  The reference's keys and their counts over the extended reals: each key is the number of three signs, each count the number
  of rows with a key.
-/
module

public import proofs.«01_k».proof.Proof.RefGather
public import proofs.«01_k».proof.Proof.Keys

@[expose] public section

set_option maxRecDepth 16384

noncomputable section

namespace Cert.Hist

open Cert.ReferenceIdeal Cert.ReferenceIdeal.Gen
open Idealize.ShloMosaic

/-- The table of the threes of four columns, an index below zero counted from the end. -/
def threes4 : IVec S4x3x1 32 :=
  broadcastInDim S4x3x1 ![0, 1] bcast_S4x3_S4x3x1_0_1 (select (cmpi .slt (fun i => lit1 (S4x3.rowMajor i)) (broadcastInDim S4x3 ![] bcast_S_S4x3 (constantI S_ 32 0#32)))
    (addi (fun i => lit1 (S4x3.rowMajor i)) (broadcastInDim S4x3 ![] bcast_S_S4x3 (constantI S_ 32 4#32))) (fun i => lit1 (S4x3.rowMajor i)))

/-- The table of the threes of five blocks, an index below zero counted from the end. -/
def threes5 : IVec S10x3x1 32 :=
  broadcastInDim S10x3x1 ![0, 1] bcast_S10x3_S10x3x1_0_1 (select (cmpi .slt (fun i => lit3 (S10x3.rowMajor i)) (broadcastInDim S10x3 ![] bcast_S_S10x3 (constantI S_ 32 0#32)))
    (addi (fun i => lit3 (S10x3.rowMajor i)) (broadcastInDim S10x3 ![] bcast_S_S10x3 (constantI S_ 32 5#32))) (fun i => lit3 (S10x3.rowMajor i)))

section
variable {F : FTy → Type} [FloatOps F]

/-- The local keys of every row. -/
def keys4 (x : Vec F S1048576x5x4 .f32) : IVec S1048576x5x4 32 :=
  Host.reduce IntOp.addi (muli (extui 32 (cmpf .ogt (Host.gather gather_S1048576x5x4_S4x3x1_S1048576x5x4x3_01_2_n_n_2_2_104857651 x threes4)
      (broadcastInDim S1048576x5x4x3 ![] bcast_S_S1048576x5x4x3 (constant S_ .f32 0x00000000#32))) natLt_1_32)
    (broadcastInDim S1048576x5x4x3 ![0, 1, 2, 3] bcast_S1x1x1x3_S1048576x5x4x3_0_1_2_3 (broadcastInDim S1x1x1x3 ![3] bcast_S3_S1x1x1x3_3 (fun i => lit0 (S3.rowMajor i)))))
    (constantI S_ 32 0#32) reducesTo_S1048576x5x4x3_S1048576x5x4_d3 h_S_

/-- The global keys of every row. -/
def keys5 (x : Vec F S1048576x1x5 .f32) : IVec S1048576x1x10 32 :=
  Host.reduce IntOp.addi (muli (extui 32 (cmpf .ogt (Host.gather gather_S1048576x1x5_S10x3x1_S1048576x1x10x3_01_2_n_n_2_2_104857611 x threes5)
      (broadcastInDim S1048576x1x10x3 ![] bcast_S_S1048576x1x10x3 (constant S_ .f32 0x00000000#32))) natLt_1_32)
    (broadcastInDim S1048576x1x10x3 ![0, 1, 2, 3] bcast_S1x1x1x3_S1048576x1x10x3_0_1_2_3 (broadcastInDim S1x1x1x3 ![3] bcast_S3_S1x1x1x3_3 (fun i => lit2 (S3.rowMajor i)))))
    (constantI S_ 32 0#32) reducesTo_S1048576x1x10x3_S1048576x1x10_d3 h_S_

/-- The means of the rows' blocks of four columns. -/
def means (x : Vec F S1048576x5x4 .f32) : Vec F S1048576x1x5 .f32 :=
  broadcastInDim S1048576x1x5 ![0, 2] bcast_S1048576x5_S1048576x1x5_0_2 (Host.divf (Host.reduceAdd x (constant S_ .f32 0x00000000#32) reducesTo_S1048576x5x4_S1048576x5_d2 h_S_)
    (broadcastInDim S1048576x5 ![] bcast_S_S1048576x5 (constant S_ .f32 0x40800000#32)))

end

/-- How many rows have each local key. -/
def counts4 (k : IVec S1048576x5x4 32) : IVec S5x4x8 32 :=
  Host.reduce IntOp.addi (extui 32 (cmpi .eq
      (broadcastInDim S1048576x5x4x8 ![0, 1, 2, 3] bcast_S1048576x5x4x1_S1048576x5x4x8_0_1_2_3 (broadcastInDim S1048576x5x4x1 ![0, 1, 2] bcast_S1048576x5x4_S1048576x5x4x1_0_1_2 k))
      (broadcastInDim S1048576x5x4x8 ![0, 1, 2, 3] bcast_S1x1x1x8_S1048576x5x4x8_0_1_2_3 (broadcastInDim S1x1x1x8 ![3] bcast_S8_S1x1x1x8_3 (iotaInDim S8 32 0)))) natLt_1_32)
    (constantI S_ 32 0#32) reducesTo_S1048576x5x4x8_S5x4x8_d0 h_S_

/-- How many rows have each global key. -/
def counts5 (k : IVec S1048576x1x10 32) : IVec S1x10x8 32 :=
  Host.reduce IntOp.addi (extui 32 (cmpi .eq
      (broadcastInDim S1048576x1x10x8 ![0, 1, 2, 3] bcast_S1048576x1x10x1_S1048576x1x10x8_0_1_2_3 (broadcastInDim S1048576x1x10x1 ![0, 1, 2] bcast_S1048576x1x10_S1048576x1x10x1_0_1_2 k))
      (broadcastInDim S1048576x1x10x8 ![0, 1, 2, 3] bcast_S1x1x1x8_S1048576x1x10x8_0_1_2_3 (broadcastInDim S1x1x1x8 ![3] bcast_S8_S1x1x1x8_3 (iotaInDim S8 32 0)))) natLt_1_32)
    (constantI S_ 32 0#32) reducesTo_S1048576x1x10x8_S1x10x8_d0 h_S_

/-! ## The tables of threes -/

/-- The `j`-th column of the `s`-th three of four. -/
def three4 (s j : ℕ) : ℕ := match s with
  | 0 => j | 1 => (match j with | 0 => 0 | 1 => 1 | _ => 3) | 2 => (match j with | 0 => 0 | 1 => 2 | _ => 3) | _ => j + 1

/-- The `j`-th block of the `s`-th three of five. -/
def three5 (s j : ℕ) : ℕ := match s with
  | 0 => j
  | 1 => (match j with | 0 => 0 | 1 => 1 | _ => 3)
  | 2 => (match j with | 0 => 0 | 1 => 1 | _ => 4)
  | 3 => (match j with | 0 => 0 | 1 => 2 | _ => 3)
  | 4 => (match j with | 0 => 0 | 1 => 2 | _ => 4)
  | 5 => (match j with | 0 => 0 | 1 => 3 | _ => 4)
  | 6 => j + 1
  | 7 => (match j with | 0 => 1 | 1 => 2 | _ => 4)
  | 8 => (match j with | 0 => 1 | 1 => 3 | _ => 4)
  | _ => j + 2

/-- The table holds the threes of four columns, all within the axis. -/
theorem threes4_apply (s : Fin 4) (j : Fin 3) (z : Fin 1) : min (threes4 (Idealize.ShloMosaic.ix3 s j z)).toInt.toNat (4 - 1) = three4 s.val j.val := by
  pointwise [threes4]
  have h : S4x3.rowMajor (Idealize.ShloMosaic.ix2 s j) = (⟨3 * s.val + j.val, by have := s.isLt; have := j.isLt; change _ < 12; omega⟩ : Fin 12) := by
    apply Fin.ext
    rw [Shape.rowMajor_val_two]
    show s.val * 3 + j.val = 3 * s.val + j.val
    omega
  rw [h]
  fin_cases s <;> fin_cases j <;> rfl

/-- The table holds the threes of five blocks, all within the axis. -/
theorem threes5_apply (s : Fin 10) (j : Fin 3) (z : Fin 1) : min (threes5 (Idealize.ShloMosaic.ix3 s j z)).toInt.toNat (5 - 1) = three5 s.val j.val := by
  pointwise [threes5]
  have h : S10x3.rowMajor (Idealize.ShloMosaic.ix2 s j) = (⟨3 * s.val + j.val, by have := s.isLt; have := j.isLt; change _ < 30; omega⟩ : Fin 30) := by
    apply Fin.ext
    rw [Shape.rowMajor_val_two]
    show s.val * 3 + j.val = 3 * s.val + j.val
    omega
  rw [h]
  fin_cases s <;> fin_cases j <;> rfl

/-- A column of a three is below four. -/
theorem three4_lt (s : Fin 4) (j : Fin 3) : three4 s.val j.val < 4 := by
  rw [← threes4_apply s j 0]
  omega
/-- A block of a three is below five. -/
theorem three5_lt (s : Fin 10) (j : Fin 3) : three5 s.val j.val < 5 := by
  rw [← threes5_apply s j 0]
  omega

/-- A local key is the sum of its three bits times their powers of two. -/
theorem key4_sum (v : ℕ) (s : Fin 4) : ∑ j : Fin 3, v / 2 ^ three4 s.val j.val % 2 * 2 ^ j.val = key4 v s.val := by
  rw [Fin.sum_univ_three]
  obtain ⟨s, hs⟩ := s
  interval_cases s <;> simp [three4, key4, key3, Nat.mul_comm]
/-- A global key is the sum of its three bits times their powers of two. -/
theorem key5_sum (v : ℕ) (s : Fin 10) : ∑ j : Fin 3, v / 2 ^ three5 s.val j.val % 2 * 2 ^ j.val = key5 v s.val := by
  rw [Fin.sum_univ_three]
  obtain ⟨s, hs⟩ := s
  interval_cases s <;> simp [three5, key5, key3, Nat.mul_comm]

/-! ## Keys -/

/-- The bits of a nibble are the signs of its columns. -/
theorem nib_bit (x : ℕ → EReal) (i a : ℕ) (ha : a < 4) : nib x i / 2 ^ a % 2 = bitOf (x (4 * i + a)) := by
  have h0 := bitOf_le (x (4 * i)); have h1 := bitOf_le (x (4 * i + 1)); have h2 := bitOf_le (x (4 * i + 2)); have h3 := bitOf_le (x (4 * i + 3))
  unfold nib
  have e0 : bitOf (x (4 * i + 0)) = bitOf (x (4 * i)) := rfl
  interval_cases a <;> omega

/-- The bits above the nibbles are the signs of the blocks' sums. -/
theorem grp_bit (x : ℕ → EReal) (a : ℕ) (ha : a < 5) : grp x / 2 ^ a % 2 = bitOf (blockSum x a) := by
  have h0 := bitOf_le (blockSum x 0); have h1 := bitOf_le (blockSum x 1); have h2 := bitOf_le (blockSum x 2)
  have h3 := bitOf_le (blockSum x 3); have h4 := bitOf_le (blockSum x 4)
  unfold grp
  interval_cases a <;> omega

/-- A sign as a word, times a power of two: the word of the sign's bit times the power. -/
theorem sign_word (a : EReal) (j : Fin 3) (w : BitVec 32) (hw : w = BitVec.ofNat 32 (2 ^ j.val)) [Decidable (0 < a)] :
    IntOp.muli (BitVec.setWidth 32 (BitVec.ofBool (decide (0 < a)))) w = BitVec.ofNat 32 (bitOf a * 2 ^ j.val) := by
  subst hw
  unfold bitOf
  by_cases h : 0 < a
  · rw [if_pos h, decide_eq_true h]
    fin_cases j <;> rfl
  · rw [if_neg h, decide_eq_false h]
    fin_cases j <;> rfl

/-- The powers of two of the local keys. -/
theorem lit0_apply (j : Fin 3) : lit0 (S3.rowMajor (Idealize.ShloMosaic.ix1 j)) = BitVec.ofNat 32 (2 ^ j.val) := by
  have h : S3.rowMajor (Idealize.ShloMosaic.ix1 j) = (j : Fin 3) := by
    apply Fin.ext
    rw [Shape.rowMajor_val_one]
    rfl
  rw [h]
  fin_cases j <;> rfl
/-- The powers of two of the global keys. -/
theorem lit2_apply (j : Fin 3) : lit2 (S3.rowMajor (Idealize.ShloMosaic.ix1 j)) = BitVec.ofNat 32 (2 ^ j.val) := lit0_apply j

/-- A row's local key is the number of its three signs. -/
theorem keys4_apply (x : Vec Ideal S1048576x5x4 .f32) (y : ℕ → EReal) (n : Fin 1048576) (i : Fin 5) (s : Fin 4)
    (hy : ∀ a : Fin 4, x (Idealize.ShloMosaic.ix3 n i a) = y (4 * i.val + a.val)) :
    keys4 (F := Ideal) x (Idealize.ShloMosaic.ix3 n i s) = BitVec.ofNat 32 (key4 (nib y i.val) s.val) := by
  have hg : ∀ j : Fin 3, Host.gather gather_S1048576x5x4_S4x3x1_S1048576x5x4x3_01_2_n_n_2_2_104857651 x threes4 (Idealize.ShloMosaic.ix4 n i s j)
      = y (4 * i.val + three4 s.val j.val) := fun j => by
    refine (gather_last (by decide) gather_S1048576x5x4_S4x3x1_S1048576x5x4x3_01_2_n_n_2_2_104857651_wf x threes4 n i s j).trans ?_
    rw [hy]
    exact congrArg (fun a => y (4 * i.val + a)) (threes4_apply s j _)
  pointwise [keys4]
  refine (fold_ofNat _ _ (fun j : Fin 3 => bitOf (y (4 * i.val + three4 s.val j.val)) * 2 ^ j.val)
    (fun j => (sign_word _ j _ (lit0_apply j)).trans (congrArg (fun a => BitVec.ofNat 32 (bitOf a * 2 ^ j.val)) (hg j)))).trans ?_
  rw [← key4_sum]
  simp only [nib_bit _ _ _ (three4_lt s _)]

/-- A row's global key is the number of its three blocks' signs. -/
theorem keys5_apply (x : Vec Ideal S1048576x1x5 .f32) (y : ℕ → EReal) (n : Fin 1048576) (i : Fin 1) (s : Fin 10)
    (hy : ∀ a : Fin 5, bitOf (x (Idealize.ShloMosaic.ix3 n i a)) = bitOf (blockSum y a.val)) :
    keys5 (F := Ideal) x (Idealize.ShloMosaic.ix3 n i s) = BitVec.ofNat 32 (key5 (grp y) s.val) := by
  have hg : ∀ j : Fin 3, bitOf (Host.gather gather_S1048576x1x5_S10x3x1_S1048576x1x10x3_01_2_n_n_2_2_104857611 x threes5 (Idealize.ShloMosaic.ix4 n i s j))
      = bitOf (blockSum y (three5 s.val j.val)) := fun j => by
    refine (congrArg bitOf (gather_last (by decide) gather_S1048576x1x5_S10x3x1_S1048576x1x10x3_01_2_n_n_2_2_104857611_wf x threes5 n i s j)).trans ?_
    rw [hy]
    exact congrArg (fun a => bitOf (blockSum y a)) (threes5_apply s j _)
  obtain rfl : i = 0 := Subsingleton.elim _ _
  pointwise [keys5]
  refine (fold_ofNat _ _ (fun j : Fin 3 => bitOf (blockSum y (three5 s.val j.val)) * 2 ^ j.val)
    (fun j => (sign_word _ j _ (lit2_apply j)).trans (congrArg (fun b => BitVec.ofNat 32 (b * 2 ^ j.val)) (hg j)))).trans ?_
  rw [← key5_sum]
  simp only [grp_bit _ _ (three5_lt s _)]

/-- A block's mean is positive exactly when its sum is. -/
theorem means_apply (x : Vec Ideal S1048576x5x4 .f32) (y : ℕ → EReal) (n : Fin 1048576) (z : Fin 1) (i : Fin 5)
    (hy : ∀ a : Fin 4, x (Idealize.ShloMosaic.ix3 n i a) = y (4 * i.val + a.val)) :
    bitOf (means (F := Ideal) x (Idealize.ShloMosaic.ix3 n z i)) = bitOf (blockSum y i.val) := by
  have h4 : Ideal.ofBits .f32 0x40800000#32 = ((4 : ℝ) : EReal) := by
    simp [Ideal.ofBits, Ideal.ieee, -EReal.coe_mul]; norm_num
  have h : means (F := Ideal) x (Idealize.ShloMosaic.ix3 n z i) = blockSum y i.val * ((1 / 4 : ℝ) : EReal) := by
    pointwise [means]
    rw [h4, Ideal.div_coe (by norm_num), Fin.sum_univ_four]
    simp only [hy]
    unfold blockSum
    rw [← add_assoc]
    rfl
  have hp : 0 < blockSum y i.val * ((1 / 4 : ℝ) : EReal) ↔ 0 < blockSum y i.val := by
    induction blockSum y i.val using EReal.rec with
    | bot => rw [EReal.bot_mul_coe_of_pos (by norm_num)]
    | top => rw [EReal.top_mul_coe_of_pos (by norm_num)]
    | coe r =>
      rw [← EReal.coe_mul, ← EReal.coe_zero, EReal.coe_lt_coe_iff, EReal.coe_lt_coe_iff]
      constructor <;> intro h <;> linarith
  rw [h]
  unfold bitOf
  simp only [hp]

/-! ## Counts -/

/-- A comparison of two words below eight, as a word. -/
theorem eq_word (v : ℕ) (k : Fin 8) (hv : v < 8) :
    BitVec.setWidth 32 (IntOp.cmpi .eq (BitVec.ofNat 32 v) (BitVec.ofNat 32 k.val)) = BitVec.ofNat 32 (if v = k.val then 1 else 0) := by
  interval_cases v <;> fin_cases k <;> rfl

/-- A key of three bits is below eight. -/
theorem key3_lt (v a b c : ℕ) : key3 v a b c < 8 := by
  unfold key3
  have h1 := Nat.mod_lt (v / 2 ^ a) (show 0 < 2 by decide)
  have h2 := Nat.mod_lt (v / 2 ^ b) (show 0 < 2 by decide)
  have h3 := Nat.mod_lt (v / 2 ^ c) (show 0 < 2 by decide)
  omega
/-- A local key is below eight. -/
theorem key4_lt (v s : ℕ) : key4 v s < 8 := by
  unfold key4; split <;> exact key3_lt _ _ _ _
/-- A global key is below eight. -/
theorem key5_lt (v s : ℕ) : key5 v s < 8 := by
  unfold key5; split <;> exact key3_lt _ _ _ _

/-- The count of a local key is the number of the rows that have it. -/
theorem counts4_apply (K : IVec S1048576x5x4 32) (x : ℕ → ℕ → EReal) (i : Fin 5) (s : Fin 4) (k : Fin 8)
    (hK : ∀ n : Fin 1048576, K (Idealize.ShloMosaic.ix3 n i s) = BitVec.ofNat 32 (key4 (nib (x n.val) i.val) s.val)) :
    counts4 K (Idealize.ShloMosaic.ix3 i s k) = BitVec.ofNat 32 (count4 x i.val s.val k.val) := by
  pointwise [counts4]
  rw [fold_ofNat _ _ (fun n : Fin 1048576 => if key4 (nib (x n.val) i.val) s.val = k.val then 1 else 0)
    (fun n => by rw [hK]; exact eq_word _ k (key4_lt _ _))]
  unfold count4
  rw [Finset.sum_range]

/-- The count of a global key is the number of the rows that have it. -/
theorem counts5_apply (K : IVec S1048576x1x10 32) (x : ℕ → ℕ → EReal) (i : Fin 1) (s : Fin 10) (k : Fin 8)
    (hK : ∀ n : Fin 1048576, K (Idealize.ShloMosaic.ix3 n i s) = BitVec.ofNat 32 (key5 (grp (x n.val)) s.val)) :
    counts5 K (Idealize.ShloMosaic.ix3 i s k) = BitVec.ofNat 32 (count5 x s.val k.val) := by
  obtain rfl : i = 0 := Subsingleton.elim _ _
  pointwise [counts5]
  rw [fold_ofNat _ _ (fun n : Fin 1048576 => if key5 (grp (x n.val)) s.val = k.val then 1 else 0)
    (fun n => by rw [hK]; exact eq_word _ k (key5_lt _ _))]
  unfold count5
  rw [Finset.sum_range]

end Cert.Hist

end
-- ==== Proof.Tables.lean ====
/-
  The two host tables, entry by entry, over the extended reals: the first sends a histogram's rows to the keys of three
  columns (or three blocks) out of four (or five); the second averages the keys' entropy terms.
-/
module

public import proofs.«01_k».proof.Proof.Main
public import proofs.«01_k».proof.Proof.TableBits
public import Idealize.ShloMosaic.Lib.Pointwise
public import Idealize.ShloMosaic.Lib.IdealHost

@[expose] public section

set_option maxRecDepth 16384

noncomputable section

namespace Cert.Hist

open Cert.KernelIdeal Cert.KernelIdeal.Gen
open Idealize.ShloMosaic

/-- An entry of the first table: one where the row counts toward the column, zero elsewhere. -/
theorem tableM_apply (r : Fin 112) (q : Fin 240) : tableM (F := Ideal) (Idealize.ShloMosaic.ix2 r q) = if feeds r.val q.val then 1 else 0 := by
  have e : (S112x240.rowMajor (Idealize.ShloMosaic.ix2 r q)).val = r.val * 240 + q.val := by rw [Shape.rowMajor_val_two]; rfl
  have h : lit0 (S112x240.rowMajor (Idealize.ShloMosaic.ix2 r q)) = lit0t (r.val * 240 + q.val) := by rw [← e]
  unfold tableM
  rw [h, tableM_bits]
  split_ifs
  · exact Ideal.ofBits_one_f32
  · exact Ideal.ofBits_zero_f32

/-- The bit pattern of a quarter. -/
theorem quarter_f32 : Ideal.ofBits .f32 0x3E800000#32 = (((1 : ℝ) / 4 : ℝ) : EReal) := by
  simp [Ideal.ofBits, Ideal.ieee, -EReal.coe_mul]; norm_num

/-- An entry of the second table: a quarter in a block's own column, one in the last column for the block sums. -/
theorem tableG_apply (q : Fin 240) (c : Fin 8) : tableG (F := Ideal) (Idealize.ShloMosaic.ix2 q c)
    = (((if q.val < 160 then (if c.val = q.val / 32 then 1 / 4 else 0) else if c.val = 5 then 1 else 0 : ℝ) : ℝ) : EReal) := by
  have e : (S240x8.rowMajor (Idealize.ShloMosaic.ix2 q c)).val = q.val * 8 + c.val := by rw [Shape.rowMajor_val_two]; rfl
  have h : lit1 (S240x8.rowMajor (Idealize.ShloMosaic.ix2 q c)) = lit1t (q.val * 8 + c.val) := by rw [← e]
  unfold tableG
  rw [h, tableG_bits]
  split_ifs
  · exact quarter_f32
  · rw [EReal.coe_zero]; exact Ideal.ofBits_zero_f32
  · rw [EReal.coe_one]; exact Ideal.ofBits_one_f32
  · rw [EReal.coe_zero]; exact Ideal.ofBits_zero_f32

end Cert.Hist
-- ==== Proof.Entropy.lean ====
/-
  The entropy kernel over the extended reals: from the histograms of the packed words to the averaged entropies of the keys,
  each entropy term a real number determined by a count.
-/
module

public import proofs.«01_k».proof.Proof.Keys
public import proofs.«01_k».proof.Proof.Tables

@[expose] public section

set_option maxRecDepth 16384

noncomputable section

namespace Cert.Hist

open Cert.KernelIdeal Cert.KernelIdeal.Gen
open Idealize.ShloMosaic

/-- The entropy term of a key seen in `c` of the 1048576 rows, in bits. -/
def ent (c : ℕ) : ℝ := -((c : ℝ) / 1048576 * (Real.log ((c : ℝ) / 1048576) * (Real.log 2)⁻¹))

/-- A key that no row has contributes nothing. -/
theorem ent_zero : ent 0 = 0 := by unfold ent; simp

/-- The bit pattern of the number of rows. -/
theorem rows_f32 : Ideal.ofBits .f32 0x49800000#32 = ((1048576 : ℝ) : EReal) := by
  simp [Ideal.ofBits, Ideal.ieee, -EReal.coe_mul]; norm_num

/-- The first named constant is the inverse of the logarithm of two. -/
theorem inv_ln2_val : Named.named (F := Ideal) κ "inv_ln2" (φ := .f32) 0x3FB8AA3B#32 = (((Real.log 2)⁻¹ : ℝ) : EReal) :=
  IdealRules.named_const.ideal_named_scalar _ _ _ _ rfl
/-- The second named constant is a tenth. -/
theorem tenth_val : Named.named (F := Ideal) κ "tenth" (φ := .f32) 0x3DCCCCCD#32 = (((1 / 10 : ℝ) : ℝ) : EReal) :=
  IdealRules.named_const.ideal_named_scalar _ _ _ _ rfl

/-- A count as a share of the rows. -/
theorem div_rows (c : ℕ) : Ideal.div (c : EReal) (Ideal.ofBits .f32 0x49800000#32) = (((c : ℝ) / 1048576 : ℝ) : EReal) := by
  rw [rows_f32, Ideal.div_coe (by norm_num), ← EReal.coe_natCast, ← EReal.coe_mul]
  congr 1; ring

/-- The logarithm of a positive count's share. -/
theorem log_share {c : ℕ} (h : 0 < c) : Ideal.log (((c : ℝ) / 1048576 : ℝ) : EReal) = ((Real.log ((c : ℝ) / 1048576) : ℝ) : EReal) := by
  have : (0 : ℝ) < c := by exact_mod_cast h
  rw [Ideal.log_coe, if_neg (not_le.mpr (by positivity))]

/-- The kernel's entropy term of a count. -/
theorem kernel_term (c : ℕ) [Decidable ((0 : EReal) < (c : EReal))] :
    (if (0 : EReal) < (c : EReal) then 0 - Ideal.div (c : EReal) (Ideal.ofBits .f32 0x49800000#32)
        * (Ideal.log (if (0 : EReal) < (c : EReal) then Ideal.div (c : EReal) (Ideal.ofBits .f32 0x49800000#32) else 1)
          * Named.named (F := Ideal) κ "inv_ln2" (φ := .f32) 0x3FB8AA3B#32) else 0) = ((ent c : ℝ) : EReal) := by
  by_cases h : 0 < c
  · have h' : (0 : EReal) < (c : EReal) := by exact_mod_cast h
    rw [if_pos h', if_pos h', div_rows, log_share h, inv_ln2_val, ← EReal.coe_mul, ← EReal.coe_mul, ← EReal.coe_zero, ← EReal.coe_sub, zero_sub]
    rfl
  · obtain rfl : c = 0 := by omega
    rw [if_neg (by simp), ent_zero, EReal.coe_zero]

/-- A sum of real numbers, read as extended reals, is the sum read so. -/
theorem coe_sum {ι : Type} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, ih, Finset.sum_insert ha, EReal.coe_add]

/-- A product of counts, read as extended reals, is the product read so. -/
theorem cast_mul (a b : ℕ) : ((a * b : ℕ) : EReal) = (a : EReal) * (b : EReal) := by
  rw [← EReal.coe_natCast, ← EReal.coe_natCast, ← EReal.coe_natCast, ← EReal.coe_mul, Nat.cast_mul]

/-- The last line's weight: a tenth in the sixth column, one elsewhere. -/
theorem scale_col (c : Fin 8) : Scalar.select (IntOp.cmpi .eq (BitVec.ofNat 32 c.val) 5#32) (((1 / 10 : ℝ) : ℝ) : EReal) 1
    = (((if c.val = 5 then 1 / 10 else 1 : ℝ) : ℝ) : EReal) := by
  fin_cases c <;> simp [IntOp.cmpi, Scalar.select]

/-- The entropies' row from column counts: column `c` the terms' weighted sum, the sixth also divided by ten. -/
theorem entropyRow_apply (C : S32x112x16.Idx → EReal) (A : S112x240.Idx → EReal) (W : S240x8.Idx → EReal) (n : Fin 240 → ℕ) (w : Fin 240 → Fin 8 → ℝ)
    (hn : ∀ q : Fin 240, ∑ r : Fin 112, (∑ a : Fin 32, ∑ b : Fin 16, C (Idealize.ShloMosaic.ix3 a r b)) * A (Idealize.ShloMosaic.ix2 r q) = (n q : EReal))
    (hw : ∀ q c, W (Idealize.ShloMosaic.ix2 q c) = (w q c : EReal)) (z : Fin 1) (c : Fin 8) :
    entropyRow (F := Ideal) C A W (Idealize.ShloMosaic.ix2 z c)
      = (((∑ q : Fin 240, ent (n q) * w q c) * (if c.val = 5 then 1 / 10 else 1) : ℝ) : EReal) := by
  unfold entropyRow
  pointwise [k2_pay1]
  simp only [hn, hw]
  simp only [kernel_term, tenth_val, ← EReal.coe_mul]
  rw [scale_col, coe_sum, ← EReal.coe_mul]

/-! ## The kernel's averages -/

/-- The average over the four threes of columns of block `i` of their keys' entropies. -/
def localAvg (x : ℕ → ℕ → EReal) (i : ℕ) : ℝ := (∑ s ∈ Finset.range 4, ∑ k ∈ Finset.range 8, ent (count4 x i s k)) / 4
/-- The average over the ten threes of blocks of their keys' entropies. -/
def globalAvg (x : ℕ → ℕ → EReal) : ℝ := (∑ s ∈ Finset.range 10, ∑ k ∈ Finset.range 8, ent (count5 x s k)) / 10

/-- The second table's weights. -/
def weight (q c : ℕ) : ℝ := if q < 160 then (if c = q / 32 then 1 / 4 else 0) else if c = 5 then 1 else 0

/-- The weighted sum of the terms, column by column of the second table. -/
theorem weighted_eq (x : ℕ → ℕ → EReal) (c : ℕ) : ∑ q ∈ Finset.range 240, ent (colCount x q) * weight q c
    = (∑ i ∈ Finset.range 5, if c = i then localAvg x i else 0) + if c = 5 then 10 * globalAvg x else 0 := by
  have h1 := Finset.sum_range_add (fun q => ent (colCount x q) * weight q c) 160 80
  refine h1.trans (congrArg₂ (· + ·) ?_ ?_)
  · have h2 := Finset.sum_range_mul_split 5 32 fun q => ent (colCount x q) * weight q c
    refine h2.trans (Finset.sum_congr rfl fun i hi => ?_)
    have hi := Finset.mem_range.mp hi
    refine (Finset.sum_range_mul_split 4 8 fun b => ent (colCount x (i * 32 + b)) * weight (i * 32 + b) c).trans ?_
    have h3 : ∀ s < 4, ∀ k < 8, ent (colCount x (i * 32 + (s * 8 + k))) * weight (i * 32 + (s * 8 + k)) c
        = ent (count4 x i s k) * (if c = i then 1 / 4 else 0) := fun s hs k hk => by
      unfold colCount weight
      rw [if_pos (by omega), if_pos (by omega), show (i * 32 + (s * 8 + k)) / 32 = i by omega, show (i * 32 + (s * 8 + k)) / 8 % 4 = s by omega,
        show (i * 32 + (s * 8 + k)) % 8 = k by omega]
    rw [Finset.sum_congr rfl fun s hs => Finset.sum_congr rfl fun k hk => h3 s (Finset.mem_range.mp hs) k (Finset.mem_range.mp hk)]
    unfold localAvg
    simp only [← Finset.sum_mul]
    split_ifs <;> ring
  · refine (Finset.sum_range_mul_split 10 8 fun b => ent (colCount x (160 + b)) * weight (160 + b) c).trans ?_
    have h3 : ∀ s < 10, ∀ k < 8, ent (colCount x (160 + (s * 8 + k))) * weight (160 + (s * 8 + k)) c
        = ent (count5 x s k) * (if c = 5 then 1 else 0) := fun s hs k hk => by
      unfold colCount weight
      rw [if_neg (by omega), if_neg (by omega), show (160 + (s * 8 + k) - 160) / 8 = s by omega, show (160 + (s * 8 + k) - 160) % 8 = k by omega]
    rw [Finset.sum_congr rfl fun s hs => Finset.sum_congr rfl fun k hk => h3 s (Finset.mem_range.mp hs) k (Finset.mem_range.mp hk)]
    unfold globalAvg
    simp only [← Finset.sum_mul]
    split_ifs <;> ring

/-- The weighted terms, with the last line's weight: the averages. -/
theorem averages (x : ℕ → ℕ → EReal) (c : ℕ) (hc : c ≤ 5) :
    (∑ q : Fin 240, ent (colCount x q.val) * weight q.val c) * (if c = 5 then 1 / 10 else 1) = if c < 5 then localAvg x c else globalAvg x := by
  rw [Fin.sum_univ_eq_sum_range fun q => ent (colCount x q) * weight q c, weighted_eq]
  interval_cases c <;> simp [Finset.sum_range_succ]
  ring

/-- The entropies' row of packed words `pk` whose numbers are the rows' `x`. -/
theorem entropyRow_hists (x : ℕ → ℕ → EReal) (pk : Packed) (hpk : ∀ n < 1048576, (pk (wordAt n)).toNat = packNat (x n)) (z : Fin 1) (c : Fin 8) (hc : c.val ≤ 5) :
    entropyRow (F := Ideal) (shapeCast S32x112x16 (hists (F := Ideal) pk) shapeCasts_S57344_S32x112x16) tableM tableG (Idealize.ShloMosaic.ix2 z c)
      = ((if c.val < 5 then localAvg x c.val else globalAvg x : ℝ) : EReal) := by
  rw [entropyRow_apply _ _ _ (fun q => colCount x q.val) (fun q c => weight q.val c.val), averages x c.val hc]
  · intro q
    have hr : ∀ r : Fin 112, ∑ a : Fin 32, ∑ b : Fin 16, shapeCast S32x112x16 (hists (F := Ideal) pk) shapeCasts_S57344_S32x112x16 (Idealize.ShloMosaic.ix3 a r b)
        = ((fieldCount pk r.val : ℕ) : EReal) := fun r => by
      rw [← hists_sum pk r.val r.isLt fun w l => if h : w < 32 ∧ l < 16 then
        shapeCast S32x112x16 (hists (F := Ideal) pk) shapeCasts_S57344_S32x112x16 (Idealize.ShloMosaic.ix3 ⟨w, h.1⟩ r ⟨l, h.2⟩) else 0]
      · rw [Finset.sum_range]
        refine Finset.sum_congr rfl fun a _ => ?_
        rw [Finset.sum_range]
        refine Finset.sum_congr rfl fun b _ => ?_
        rw [dif_pos ⟨a.isLt, b.isLt⟩]
      · intro w hw l hl
        rw [dif_pos ⟨hw, hl⟩]
        have hb : 1792 * w + 16 * r.val + l < 57344 := by have := r.isLt; omega
        refine ⟨fun a => ⟨1792 * w + 16 * r.val + l, by obtain rfl : a = 0 := Subsingleton.elim _ _; exact hb⟩, rfl, ?_⟩
        pointwise
        refine congrArg (hists (F := Ideal) pk) (funext fun a => ?_)
        obtain rfl : a = 0 := Subsingleton.elim _ _
        apply Fin.ext
        show w * 1792 + r.val * 16 + l = 1792 * w + 16 * r.val + l
        omega
    have h1 : ∀ r : Fin 112, (if feeds r.val q.val then (1 : EReal) else 0) = (((if feeds r.val q.val then 1 else 0 : ℕ) : ℕ) : EReal) := fun r => by
      split_ifs <;> simp
    simp only [hr, tableM_apply, h1, ← cast_mul, ← Nat.cast_sum]
    rw [← colCount_eq x pk hpk q.val q.isLt, Finset.sum_range]
  · intro q c
    rw [tableG_apply]
    rfl

end Cert.Hist
-- ==== Proof.RefTail.lean ====
/-
  The reference over the extended reals, from the counts of the keys to the averaged entropies: each entropy term is the
  real number determined by its count.
-/
module

public import proofs.«01_k».proof.Proof.Entropy
public import proofs.«01_k».proof.Proof.Gen.ReferenceIdeal

@[expose] public section

set_option maxRecDepth 16384

noncomputable section

namespace Cert.Hist

open Cert.ReferenceIdeal Cert.ReferenceIdeal.Gen
open Idealize.ShloMosaic

section
variable {F : FTy → Type} [FloatOps F]

/-- The shares of the local keys: their counts divided by the number of rows. -/
def share4 (cnt : IVec S5x4x8 32) : Vec F S5x4x8 .f32 :=
  Host.divf (sitofp .f32 cnt) (broadcastInDim S5x4x8 ![] bcast_S_S5x4x8 (constant S_ .f32 0x49800000#32))

/-- The averaged entropies of the local keys' shares. -/
def tail4 (p : Vec F S5x4x8 .f32) : Vec F S5 .f32 :=
  Host.divf (Host.reduceAdd (Host.negf (Host.reduceAdd
    (select (cmpf .ogt p (broadcastInDim S5x4x8 ![] bcast_S_S5x4x8 (constant S_ .f32 0x00000000#32)))
      (Host.divf (mulf p (Host.log (select (cmpf .ogt p (broadcastInDim S5x4x8 ![] bcast_S_S5x4x8 (constant S_ .f32 0x00000000#32))) p
          (broadcastInDim S5x4x8 ![] bcast_S_S5x4x8 (constant S_ .f32 0x3F800000#32)))))
        (broadcastInDim S5x4x8 ![] bcast_S_S5x4x8 (Host.log (constant S_ .f32 0x40000000#32))))
      (broadcastInDim S5x4x8 ![] bcast_S_S5x4x8 (constant S_ .f32 0x00000000#32)))
    (constant S_ .f32 0x00000000#32) reducesTo_S5x4x8_S5x4_d2 h_S_))
    (constant S_ .f32 0x00000000#32) reducesTo_S5x4_S5_d1 h_S_)
    (broadcastInDim S5 ![] bcast_S_S5 (constant S_ .f32 0x40800000#32))

/-- The shares of the global keys: their counts divided by the number of rows. -/
def share5 (cnt : IVec S1x10x8 32) : Vec F S1x10x8 .f32 :=
  Host.divf (sitofp .f32 cnt) (broadcastInDim S1x10x8 ![] bcast_S_S1x10x8 (constant S_ .f32 0x49800000#32))

/-- The averaged entropies of the global keys' shares. -/
def tail5 (p : Vec F S1x10x8 .f32) : Vec F S1 .f32 :=
  Host.divf (Host.reduceAdd (Host.negf (Host.reduceAdd
    (select (cmpf .ogt p (broadcastInDim S1x10x8 ![] bcast_S_S1x10x8 (constant S_ .f32 0x00000000#32)))
      (Host.divf (mulf p (Host.log (select (cmpf .ogt p (broadcastInDim S1x10x8 ![] bcast_S_S1x10x8 (constant S_ .f32 0x00000000#32))) p
          (broadcastInDim S1x10x8 ![] bcast_S_S1x10x8 (constant S_ .f32 0x3F800000#32)))))
        (broadcastInDim S1x10x8 ![] bcast_S_S1x10x8 (Host.log (constant S_ .f32 0x40000000#32))))
      (broadcastInDim S1x10x8 ![] bcast_S_S1x10x8 (constant S_ .f32 0x00000000#32)))
    (constant S_ .f32 0x00000000#32) reducesTo_S1x10x8_S1x10_d2 h_S_))
    (constant S_ .f32 0x00000000#32) reducesTo_S1x10_S1_d1 h_S_)
    (broadcastInDim S1 ![] bcast_S_S1 (constant S_ .f32 0x41200000#32))

end

/-- A count that fits a signed word, read as a number. -/
theorem sitofp_count (c : ℕ) (hc : c ≤ 1048576) : FloatOps.sitofp (F := Ideal) .f32 (BitVec.ofNat 32 c) = (c : EReal) := by
  show (((BitVec.ofNat 32 c).toInt : ℝ) : EReal) = (c : EReal)
  have h : (BitVec.ofNat 32 c).toNat = c := by rw [BitVec.toNat_ofNat, Nat.mod_eq_of_lt (by omega)]
  rw [BitVec.toInt_eq_toNat_of_lt (by omega), h, ← EReal.coe_natCast]
  simp

/-- A local key's share is its count divided by the number of rows. -/
theorem share4_apply (cnt : IVec S5x4x8 32) (i : Fin 5) (s : Fin 4) (k : Fin 8) (c : ℕ) (hc : c ≤ 1048576) (h : cnt (Idealize.ShloMosaic.ix3 i s k) = BitVec.ofNat 32 c) :
    share4 (F := Ideal) cnt (Idealize.ShloMosaic.ix3 i s k) = (((c : ℝ) / 1048576 : ℝ) : EReal) := by
  pointwise [share4]
  rw [h, sitofp_count c hc, div_rows]

/-- A global key's share is its count divided by the number of rows. -/
theorem share5_apply (cnt : IVec S1x10x8 32) (i : Fin 1) (s : Fin 10) (k : Fin 8) (c : ℕ) (hc : c ≤ 1048576) (h : cnt (Idealize.ShloMosaic.ix3 i s k) = BitVec.ofNat 32 c) :
    share5 (F := Ideal) cnt (Idealize.ShloMosaic.ix3 i s k) = (((c : ℝ) / 1048576 : ℝ) : EReal) := by
  pointwise [share5]
  rw [h, sitofp_count c hc, div_rows]

/-- The bit pattern of two, its logarithm. -/
theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this, Ideal.log_coe, if_neg (by norm_num)]
/-- The bit pattern of four. -/
theorem four_f32 : Ideal.ofBits .f32 0x40800000#32 = ((4 : ℝ) : EReal) := by
  simp [Ideal.ofBits, Ideal.ieee, -EReal.coe_mul]; norm_num
/-- The bit pattern of ten. -/
theorem ten_f32 : Ideal.ofBits .f32 0x41200000#32 = ((10 : ℝ) : EReal) := by
  simp [Ideal.ofBits, Ideal.ieee, -EReal.coe_mul]; norm_num

/-- The reference's entropy term of a count, before the sign is turned. -/
theorem ref_term (c : ℕ) [Decidable ((0 : EReal) < (((c : ℝ) / 1048576 : ℝ) : EReal))] :
    (if (0 : EReal) < (((c : ℝ) / 1048576 : ℝ) : EReal) then
        Ideal.div ((((c : ℝ) / 1048576 : ℝ) : EReal)
          * Ideal.log (if (0 : EReal) < (((c : ℝ) / 1048576 : ℝ) : EReal) then (((c : ℝ) / 1048576 : ℝ) : EReal) else 1))
          (Ideal.log (Ideal.ofBits .f32 0x40000000#32)) else 0) = ((-ent c : ℝ) : EReal) := by
  by_cases h : 0 < c
  · have h0 : (0 : ℝ) < c := by exact_mod_cast h
    have h' : (0 : EReal) < (((c : ℝ) / 1048576 : ℝ) : EReal) := by
      rw [← EReal.coe_zero, EReal.coe_lt_coe_iff]; positivity
    have hl : Real.log 2 ≠ 0 := (Real.log_pos (by norm_num)).ne'
    rw [if_pos h', if_pos h', log_share h, log_two, ← EReal.coe_mul, Ideal.div_coe hl, ← EReal.coe_mul]
    refine congrArg (fun r : ℝ => (r : EReal)) ?_
    unfold ent
    ring
  · obtain rfl : c = 0 := by omega
    rw [if_neg (by simp), ent_zero]
    simp

/-- For a block, the average of the entropies of four threes, in terms of their counts. -/
theorem tail4_apply (p : Vec Ideal S5x4x8 .f32) (n : ℕ → ℕ → ℕ) (i : Fin 5)
    (h : ∀ (s : Fin 4) (k : Fin 8), p (Idealize.ShloMosaic.ix3 i s k) = (((n s.val k.val : ℝ) / 1048576 : ℝ) : EReal)) :
    tail4 (F := Ideal) p (Idealize.ShloMosaic.ix1 i)
      = (((∑ s ∈ Finset.range 4, ∑ k ∈ Finset.range 8, ent (n s k)) / 4 : ℝ) : EReal) := by
  pointwise [tail4]
  simp only [h, ref_term, coe_sum, ← EReal.coe_neg]
  rw [four_f32, Ideal.div_coe (by norm_num), ← EReal.coe_mul]
  refine congrArg (fun r : ℝ => (r : EReal)) ?_
  simp only [Finset.sum_range, Finset.sum_neg_distrib, neg_neg]
  ring

/-- The average of the entropies of ten threes, in terms of their counts. -/
theorem tail5_apply (p : Vec Ideal S1x10x8 .f32) (n : ℕ → ℕ → ℕ) (i : Fin 1)
    (h : ∀ (s : Fin 10) (k : Fin 8), p (Idealize.ShloMosaic.ix3 i s k) = (((n s.val k.val : ℝ) / 1048576 : ℝ) : EReal)) :
    tail5 (F := Ideal) p (Idealize.ShloMosaic.ix1 i)
      = (((∑ s ∈ Finset.range 10, ∑ k ∈ Finset.range 8, ent (n s k)) / 10 : ℝ) : EReal) := by
  obtain rfl : i = 0 := Subsingleton.elim _ _
  pointwise [tail5]
  simp only [h, ref_term, coe_sum, ← EReal.coe_neg]
  rw [ten_f32, Ideal.div_coe (by norm_num), ← EReal.coe_mul]
  refine congrArg (fun r : ℝ => (r : EReal)) ?_
  simp only [Finset.sum_range, Finset.sum_neg_distrib, neg_neg]
  ring

end Cert.Hist

end
-- ==== Proof.Reference.lean ====
/-
  The reference over the extended reals: its two results are the averages of the keys' entropies.
-/
module

public import proofs.«01_k».proof.Proof.RefCounts
public import proofs.«01_k».proof.Proof.RefTail
public import proofs.«01_k».proof.Proof.Gen.ReferenceIdeal.Run

@[expose] public section

set_option maxRecDepth 16384

noncomputable section

namespace Cert.Hist

open Cert.ReferenceIdeal Cert.ReferenceIdeal.Gen
open Idealize.ShloMosaic

/-- The rows cut into five blocks of four columns. -/
def blocks {F : FTy → Type} (x : Vec F S1048576x20 .f32) : Vec F S1048576x5x4 .f32 := shapeCast _ x shapeCasts_S1048576x20_S1048576x5x4

/-- Row `n` of the argument. -/
def rowOf (x : S1048576x20.Idx → EReal) (n : ℕ) : ℕ → EReal := fun c =>
  x (Idealize.ShloMosaic.ix2 ⟨n % 1048576, Nat.mod_lt _ (by decide)⟩ ⟨c % 20, Nat.mod_lt _ (by decide)⟩)

/-- Entry `a` of block `i` is column `4 * i + a`. -/
theorem blocks_apply (x : Vec Ideal S1048576x20 .f32) (n : Fin 1048576) (i : Fin 5) (a : Fin 4) :
    blocks (F := Ideal) x (Idealize.ShloMosaic.ix3 n i a) = rowOf x n.val (4 * i.val + a.val) := by
  have hn : n.val < 1048576 := n.isLt
  have hi : i.val < 5 := i.isLt
  have ha : a.val < 4 := a.isLt
  pointwise [blocks]
  unfold rowOf
  refine congrArg x (funext fun b => ?_)
  apply Fin.ext
  fin_cases b
  · show n.val = n.val % 1048576
    omega
  · show i.val * 4 + a.val = (4 * i.val + a.val) % 20
    omega

/-- The first result's term, cut at the keys, counts and shares. -/
theorem local_eq (m : (ℓ : Loc nD τ sig) → Buf (Elt Ideal) ℓ) (c : Dev nD) : Value.res_out0 (F := Ideal) m c
    = tail4 (share4 (counts4 (keys4 (blocks (m ((c.tc : Thread nD τ).loc main_arg0)))))) := by
  unfold Value.res_out0 Value.res_main_v41
  rfl

/-- The second result's term, cut at the means, keys, counts and shares. -/
theorem global_eq (m : (ℓ : Loc nD τ sig) → Buf (Elt Ideal) ℓ) (c : Dev nD) : Value.res_out1 (F := Ideal) m c
    = shapeCast _ (tail5 (share5 (counts5 (keys5 (means (blocks (m ((c.tc : Thread nD τ).loc main_arg0)))))))) shapeCasts_S1_S_ := by
  unfold Value.res_out1 Value.res_main_v87
  rfl

/-- The reference's first result: for each block the average over its threes of columns. -/
theorem reference_local (m : (ℓ : Loc nD τ sig) → Buf (Elt Ideal) ℓ) (c : Dev nD) (i : Fin 5) :
    Value.res_out0 (F := Ideal) m c (Idealize.ShloMosaic.ix1 i) = ((localAvg (rowOf (m ((c.tc : Thread nD τ).loc main_arg0))) i.val : ℝ) : EReal) := by
  rw [local_eq]
  exact tail4_apply _ (fun s k => count4 (rowOf (m ((c.tc : Thread nD τ).loc main_arg0))) i.val s k) i fun s k =>
    share4_apply _ i s k _ (count4_le _ _ _ _) (counts4_apply _ _ i s k fun n => keys4_apply _ _ n i s fun a => blocks_apply _ n i a)

/-- The reference's second result: the average over the threes of blocks. -/
theorem reference_global (m : (ℓ : Loc nD τ sig) → Buf (Elt Ideal) ℓ) (c : Dev nD) (j : S_.Idx) :
    Value.res_out1 (F := Ideal) m c j = ((globalAvg (rowOf (m ((c.tc : Thread nD τ).loc main_arg0))) : ℝ) : EReal) := by
  rw [global_eq]
  refine Eq.trans ?_ (tail5_apply (share5 (counts5 (keys5 (means (blocks (m ((c.tc : Thread nD τ).loc main_arg0)))))))
    (fun s k => count5 (rowOf (m ((c.tc : Thread nD τ).loc main_arg0))) s k) 0 fun s k =>
    share5_apply _ 0 s k _ (count5_le _ _ _) (counts5_apply _ _ 0 s k fun n => keys5_apply _ _ n 0 s fun b => means_apply _ _ n 0 b fun a => blocks_apply _ n b a))
  refine congrArg (tail5 _) (funext fun a => ?_)
  obtain rfl : a = 0 := Subsingleton.elim _ _
  exact Subsingleton.elim (α := Fin 1) _ _

end Cert.Hist

end
-- ==== Proof.Algebraic.lean ====
/-
  The kernel and the reference agree over the extended reals: both leave the averages of the keys' entropies.
-/
module

public import proofs.«01_k».proof.Proof.Main
public import proofs.«01_k».proof.Proof.Reference

@[expose] public section

set_option maxRecDepth 16384

noncomputable section

namespace Cert.Hist

open Cert.KernelIdeal Cert.KernelIdeal.Gen
open Idealize.ShloMosaic Idealize.ShloMosaic.TcCoe Idealize.SL.Sem

section
variable (m : (ℓ : Loc nD τ sig) → Buf (Elt Ideal) ℓ) (d : Dev nD)

/-- Column `n` of the transposed argument is its row `n`. -/
theorem colOf_phiT (n : ℕ) : colOf (phiT m d) n = rowOf (m ((d : Thread nD τ).loc main_arg0)) n := by
  funext c
  unfold colOf rowOf phiT
  pointwise

/-- The entropies' row of the program: five averages over threes of columns, then the one over threes of blocks. -/
theorem entropies_apply (z : Fin 1) (c : Fin 8) (hc : c.val ≤ 5) : entropies (F := Ideal) m d (Idealize.ShloMosaic.ix2 z c)
    = ((if c.val < 5 then localAvg (rowOf (m ((d : Thread nD τ).loc main_arg0))) c.val else globalAvg (rowOf (m ((d : Thread nD τ).loc main_arg0))) : ℝ) : EReal) := by
  unfold entropies
  refine entropyRow_hists _ _ (fun n hn => ?_) z c hc
  rw [packedOf_toNat, colOf_phiT]
  refine congrArg (fun k => packNat (rowOf _ k)) ?_
  show n % 1048576 = n
  omega

/-- The kernel's first result: for each block the average over its threes of columns. -/
theorem kernel_local (i : Fin 5) : atEnd m d (main_v6 : DevRef τ sig) (Idealize.ShloMosaic.ix1 i)
    = ((localAvg (rowOf (m ((d : Thread nD τ).loc main_arg0))) i.val : ℝ) : EReal) := by
  have hi : i.val < 5 := i.isLt
  rw [end_local]
  refine Eq.trans ?_ ((entropies_apply m d 0 ⟨i.val, by omega⟩ (by show i.val ≤ 5; omega)).trans
    (congrArg (fun r : ℝ => (r : EReal)) (if_pos hi)))
  pointwise

/-- The kernel's second result: the average over the threes of blocks. -/
theorem kernel_global (j : S_.Idx) : atEnd m d (main_v8 : DevRef τ sig) j
    = ((globalAvg (rowOf (m ((d : Thread nD τ).loc main_arg0))) : ℝ) : EReal) := by
  rw [end_global]
  refine Eq.trans ?_ ((entropies_apply m d 0 5 (by decide)).trans (congrArg (fun r : ℝ => (r : EReal)) (if_neg (by decide))))
  pointwise

end

/-- Two vectors of five numbers are equal when they agree at each position. -/
theorem funext_five {f g : S5.Idx → EReal} (h : ∀ i : Fin 5, f (Idealize.ShloMosaic.ix1 i) = g (Idealize.ShloMosaic.ix1 i)) : f = g := by
  funext j
  have hj : j = Idealize.ShloMosaic.ix1 (j 0) := by
    funext a
    obtain rfl : a = 0 := Subsingleton.elim _ _
    rfl
  rw [hj]
  exact h (j 0)

/-- `Cert.algebraic_KernelIdeal_ReferenceIdeal`: from equal arguments the two programs leave equal results. -/
theorem algebraic : Cert.algebraic_KernelIdeal_ReferenceIdeal := by
  intro m g m' g' _ hm
  refine ⟨fun c => atEnd m c main_v6, fun c => atEnd m c main_v8, ?_, ?_⟩
  · refine (θ_run (Cert.KernelIdeal.defs (F := Ideal)) _ _).mono (fun r h c => ⟨h.1 c _ kept_v6, h.1 c _ kept_v8, ?_⟩) (run_main (F := Ideal) m g)
    exact (h.1 c _ kept_arg0).trans (end_arg0 (F := Ideal) m c)
  · refine (θ_run Cert.ReferenceIdeal.defs _ _).mono (fun r h c => ⟨(h c).1.trans ?_, (h c).2.1.trans ?_, (h c).2.2⟩)
      (Cert.ReferenceIdeal.Value.run (F := Ideal) m' g')
    · refine funext_five fun i => (reference_local m' c i).trans (Eq.trans ?_ (kernel_local m c i).symm)
      exact congrArg (fun x => ((localAvg (rowOf x) i.val : ℝ) : EReal)) (hm c)
    · funext j
      refine (reference_global m' c j).trans (Eq.trans ?_ (kernel_global m c j).symm)
      exact congrArg (fun x => ((globalAvg (rowOf x) : ℝ) : EReal)) (hm c)

end Cert.Hist

end
-- ==== Proof.lean ====
/-
  The certificate's claims, put together: the frames and the constants' naming (Proof/Frames.lean), and
  the agreement with the reference (Proof/Algebraic.lean).
-/
module

public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Hist.frame_kernel, Cert.Hist.frame_ideal, Cert.Hist.frame_reference, Cert.Hist.preserves, Cert.Hist.algebraic⟩

end Cert.Proof

end
